-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_shifts_positive [hPre_shifts_positive : Cert.Pre_shifts_positive.Facts] (m : (ℓ : Loc Cert.KernelIdeal.nD Cert.KernelIdeal.τ Cert.KernelIdeal.sig) → Buf (Elt Ideal) ℓ) : Prop :=
  ∀ c : Dev Cert.KernelIdeal.nD,
    (Cert.Pre_shifts_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_shifts_positive [hPre_shifts_positive : Cert.Pre_shifts_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_shifts_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_shifts_positive [hKernelIdeal : Cert.KernelIdeal.Facts] [hPre_shifts_positive : Cert.Pre_shifts_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_shifts_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_shifts_positive [hReferenceIdeal : Cert.ReferenceIdeal.Facts] [hPre_shifts_positive : Cert.Pre_shifts_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_shifts_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_shifts_positive [hKernelIdeal : Cert.KernelIdeal.Facts] [hReferenceIdeal : Cert.ReferenceIdeal.Facts] [hPre_shifts_positive : Cert.Pre_shifts_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_shifts_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_shifts_positive : Cert.Pre_shifts_positive.Facts),
    quiescent_Kernel (hKernel := hKernel)
    ∧ quiescent_KernelIdeal (hKernelIdeal := hKernelIdeal)
    ∧ quiescent_KernelIdeal_pre_shifts_positive (hKernelIdeal := hKernelIdeal) (hPre_shifts_positive := hPre_shifts_positive)
    ∧ quiescent_ReferenceIdeal (hReferenceIdeal := hReferenceIdeal)
    ∧ quiescent_ReferenceIdeal_pre_shifts_positive (hReferenceIdeal := hReferenceIdeal) (hPre_shifts_positive := hPre_shifts_positive)
    ∧ preserves_Kernel_KernelIdeal
    ∧ algebraic_KernelIdeal_ReferenceIdeal_pre_shifts_positive (hKernelIdeal := hKernelIdeal) (hReferenceIdeal := hReferenceIdeal) (hPre_shifts_positive := hPre_shifts_positive)
-- ==== Pre_shifts_positive.lean ====
abbrev S6x256x1024 : Shape := ⟨3, ![6, 256, 1024]⟩
abbrev S_ : Shape := ⟨0, ![]⟩
abbrev S512x4096 : Shape := ⟨2, ![512, 4096]⟩
abbrev S4096 : Shape := ⟨1, ![4096]⟩

class Facts : Prop where
  bcast_S_S4096 : S_.BroadcastsInDim S4096 (![] : Fin 0 → Fin S4096.rank)

variable [Facts]

def fn {F : FTy → Type} [FloatOps F] (main_arg0 : IVec S6x256x1024 8) (main_arg1 : IVec S_ 32) (main_arg2 : IVec S512x4096 8) (main_arg3 : IVec S4096 32) (main_arg4 : IVec S4096 32) (main_arg5 : IVec S4096 32) (main_arg6 : IVec S_ 32) : IVec S4096 1 :=
  let main_c : IVec S_ 32 := constantI S_ 32 1#32
  let main_v0 : IVec S4096 32 := broadcastInDim S4096 ![] bcast_S_S4096 main_c
  let main_v1 : IVec S4096 1 := cmpi .sge main_arg5 main_v0
  main_v1
-- ==== Kernel.lean ====
abbrev S6x256x1024 : Shape := ⟨3, ![6, 256, 1024]⟩
abbrev S_ : Shape := ⟨0, ![]⟩
abbrev S512x4096 : Shape := ⟨2, ![512, 4096]⟩
abbrev S4096 : Shape := ⟨1, ![4096]⟩
abbrev S1 : Shape := ⟨1, ![1]⟩
abbrev S1536x1024 : Shape := ⟨2, ![1536, 1024]⟩
abbrev S1x4096 : Shape := ⟨2, ![1, 4096]⟩
abbrev S1536x4096 : Shape := ⟨2, ![1536, 4096]⟩
abbrev S512x512 : Shape := ⟨2, ![512, 512]⟩
abbrev S1536x512 : Shape := ⟨2, ![1536, 512]⟩
abbrev S1024x512 : Shape := ⟨2, ![1024, 512]⟩
abbrev S256x1024 : Shape := ⟨2, ![256, 1024]⟩
abbrev S1x1x4096 : Shape := ⟨3, ![1, 1, 4096]⟩
abbrev S1x1x1 : Shape := ⟨3, ![1, 1, 1]⟩
abbrev S512x1x512 : Shape := ⟨3, ![512, 1, 512]⟩
abbrev S512x2x512 : Shape := ⟨3, ![512, 2, 512]⟩
abbrev S1x512 : Shape := ⟨2, ![1, 512]⟩
abbrev S256x512 : Shape := ⟨2, ![256, 512]⟩
abbrev S16x1024 : Shape := ⟨2, ![16, 1024]⟩
abbrev S16x512 : Shape := ⟨2, ![16, 512]⟩
abbrev S128x1024 : Shape := ⟨2, ![128, 1024]⟩
abbrev S128x512 : Shape := ⟨2, ![128, 512]⟩

abbrev nBuf : Space → Nat
  | .hbm => 14
  | .vmem => 10
  | .smem => 3
  | _ => 0

abbrev bufTy : (tb : Table) → Fin (tcTables nBuf tb) → BufTy
  | .hbm, ⟨0, _⟩ => ⟨S6x256x1024, .i8⟩
  | .hbm, ⟨1, _⟩ => ⟨S_, .i32⟩
  | .hbm, ⟨2, _⟩ => ⟨S512x4096, .i8⟩
  | .hbm, ⟨3, _⟩ => ⟨S4096, .i32⟩
  | .hbm, ⟨4, _⟩ => ⟨S4096, .i32⟩
  | .hbm, ⟨5, _⟩ => ⟨S4096, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1536x1024, .i8⟩
  | .hbm, ⟨10, _⟩ => ⟨S1x4096, .i32⟩
  | .hbm, ⟨11, _⟩ => ⟨S1x4096, .i32⟩
  | .hbm, ⟨12, _⟩ => ⟨S1x4096, .i32⟩
  | .hbm, ⟨13, _⟩ => ⟨S1536x4096, .i8⟩
  | .local _ .vmem, ⟨0, _⟩ => ⟨S1536x1024, .i8⟩
  | .local _ .vmem, ⟨1, _⟩ => ⟨S512x512, .i8⟩
  | .local _ .vmem, ⟨2, _⟩ => ⟨S512x512, .i8⟩
  | .local _ .vmem, ⟨3, _⟩ => ⟨S1x4096, .i32⟩
  | .local _ .vmem, ⟨4, _⟩ => ⟨S1x4096, .i32⟩
  | .local _ .vmem, ⟨5, _⟩ => ⟨S1x4096, .i32⟩
  | .local _ .vmem, ⟨6, _⟩ => ⟨S1536x512, .i8⟩
  | .local _ .vmem, ⟨7, _⟩ => ⟨S1536x512, .i8⟩
  | .local _ .vmem, ⟨8, _⟩ => ⟨S1536x1024, .bf16⟩
  | .local _ .vmem, ⟨9, _⟩ => ⟨S1024x512, .bf16⟩
  | .local _ .smem, ⟨0, _⟩ => ⟨S1, .i32⟩
  | .local _ .smem, ⟨1, _⟩ => ⟨S1, .i32⟩
  | .local _ .smem, ⟨2, _⟩ => ⟨S1, .i32⟩
  | _, _ => ⟨S6x256x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_scratch2 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_7 : Index := 0#32
  let arg0 : BitVec 32 := BitVec.ofNat 32 (i 0).val
  let c512_i32 : BitVec 32 := 512#32
  let v25 : BitVec 32 := Scalar.muli arg0 c512_i32
  let v26 : Index := Scalar.indexCast v25
  ![0, v26.toNat]
@[reducible] def k0_t1_loop : Scf.Loop 32 :=
  let c0_i32_19 : BitVec 32 := 0#32
  let c12_i32 : BitVec 32 := 12#32
  let v52 : BitVec 32 := Scalar.addi c0_i32_19 c12_i32
  let c1_i32 : BitVec 32 := 1#32
  ⟨c0_i32_19, v52, c1_i32⟩
def k0_mult1 (k0_t1 : Fin k0_t1_loop.trips) : BitVec 32 :=
  let c0_i32_22 : BitVec 32 := 0#32
  let c0_i32_19 : BitVec 32 := 0#32
  let c1_i32 : BitVec 32 := 1#32
  let arg12 : BitVec 32 := Scf.iv c0_i32_19 c1_i32 k0_t1
  let c1_i32_21 : BitVec 32 := 1#32
  let v53 : BitVec 32 := Scalar.muli arg12 c1_i32_21
  let v54 : BitVec 32 := Scalar.addi c0_i32_22 v53
  let c128_i32 : BitVec 32 := 128#32
  let v55 : BitVec 32 := Scalar.muli v54 c128_i32
  v55
def k0_off2 (k0_t1 : Fin k0_t1_loop.trips) : Fin 2 → Nat :=
  let c0_i32_22 : BitVec 32 := 0#32
  let c0_i32_19 : BitVec 32 := 0#32
  let c1_i32 : BitVec 32 := 1#32
  let arg12 : BitVec 32 := Scf.iv c0_i32_19 c1_i32 k0_t1
  let c1_i32_21 : BitVec 32 := 1#32
  let v53 : BitVec 32 := Scalar.muli arg12 c1_i32_21
  let v54 : BitVec 32 := Scalar.addi c0_i32_22 v53
  let c128_i32 : BitVec 32 := 128#32
  let v55 : BitVec 32 := Scalar.muli v54 c128_i32
  let v56 : BitVec 32 := v55
  let v57 : Index := Scalar.indexCast v56
  let c0_23 : Index := 0#32
  ![v57.toNat, 0]
def k0_off3 (k0_t1 : Fin k0_t1_loop.trips) : Fin 2 → Nat :=
  let c0_i32_22 : BitVec 32 := 0#32
  let c0_i32_19 : BitVec 32 := 0#32
  let c1_i32 : BitVec 32 := 1#32
  let arg12 : BitVec 32 := Scf.iv c0_i32_19 c1_i32 k0_t1
  let c1_i32_21 : BitVec 32 := 1#32
  let v53 : BitVec 32 := Scalar.muli arg12 c1_i32_21
  let v54 : BitVec 32 := Scalar.addi c0_i32_22 v53
  let c128_i32 : BitVec 32 := 128#32
  let v55 : BitVec 32 := Scalar.muli v54 c128_i32
  let v56 : BitVec 32 := v55
  let v138 : Index := Scalar.indexCast v56
  let c0_48 : Index := 0#32
  ![v138.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1536x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S6x256x1024 : Shape := ⟨3, ![6, 256, 1024]⟩
abbrev S_ : Shape := ⟨0, ![]⟩
abbrev S512x4096 : Shape := ⟨2, ![512, 4096]⟩
abbrev S4096 : Shape := ⟨1, ![4096]⟩
abbrev S1536x1024 : Shape := ⟨2, ![1536, 1024]⟩
abbrev S1536x512 : Shape := ⟨2, ![1536, 512]⟩
abbrev S1 : Shape := ⟨1, ![1]⟩
abbrev S1536x4096 : Shape := ⟨2, ![1536, 4096]⟩
abbrev S1x4096 : Shape := ⟨2, ![1, 4096]⟩

abbrev nBuf : Space → Nat
  | .hbm => 46
  | .vmem => 10
  | .smem => 2
  | _ => 0

abbrev bufTy : (tb : Table) → Fin (tcTables nBuf tb) → BufTy
  | .hbm, ⟨0, _⟩ => ⟨S6x256x1024, .i8⟩
  | .hbm, ⟨1, _⟩ => ⟨S_, .i32⟩
  | .hbm, ⟨2, _⟩ => ⟨S512x4096, .i8⟩
  | .hbm, ⟨3, _⟩ => ⟨S4096, .i32⟩
  | .hbm, ⟨4, _⟩ => ⟨S4096, .i32⟩
  | .hbm, ⟨5, _⟩ => ⟨S4096, .i32⟩
  | .hbm, ⟨6, _⟩ => ⟨S_, .i32⟩
  | .hbm, ⟨7, _⟩ => ⟨S512x4096, .i32⟩
  | .hbm, ⟨8, _⟩ => ⟨S_, .i32⟩
  | .hbm, ⟨9, _⟩ => ⟨S512x4096, .i32⟩
  | .hbm, ⟨10, _⟩ => ⟨S512x4096, .i32⟩
  | .hbm, ⟨11, _⟩ => ⟨S_, .i32⟩
  | .hbm, ⟨12, _⟩ => ⟨S512x4096, .i32⟩
  | .hbm, ⟨13, _⟩ => ⟨S512x4096, .i32⟩
  | .hbm, ⟨14, _⟩ => ⟨S_, .i32⟩
  | .hbm, ⟨15, _⟩ => ⟨S512x4096, .i32⟩
  | .hbm, ⟨16, _⟩ => ⟨S512x4096, .i32⟩
  | .hbm, ⟨17, _⟩ => ⟨S_, .i32⟩
  | .hbm, ⟨18, _⟩ => ⟨S512x4096, .i32⟩
  | .hbm, ⟨19, _⟩ => ⟨S512x4096, .i1⟩
  | .hbm, ⟨20, _⟩ => ⟨S_, .i32⟩
  | .hbm, ⟨21, _⟩ => ⟨S512x4096, .i32⟩
  | .hbm, ⟨22, _⟩ => ⟨S512x4096, .i32⟩
  | .hbm, ⟨23, _⟩ => ⟨S512x4096, .i32⟩
  | .hbm, ⟨24, _⟩ => ⟨S512x4096, .i8⟩
  | .hbm, ⟨25, _⟩ => ⟨S_, .i32⟩
  | .hbm, ⟨26, _⟩ => ⟨S512x4096, .i32⟩
  | .hbm, ⟨27, _⟩ => ⟨S512x4096, .i1⟩
  | .hbm, ⟨28, _⟩ => ⟨S_, .i32⟩
  | .hbm, ⟨29, _⟩ => ⟨S512x4096, .i32⟩
  | .hbm, ⟨30, _⟩ => ⟨S512x4096, .i32⟩
  | .hbm, ⟨31, _⟩ => ⟨S512x4096, .i32⟩
  | .hbm, ⟨32, _⟩ => ⟨S512x4096, .i8⟩
  | .hbm, ⟨33, _⟩ => ⟨S512x4096, .i32⟩
  | .hbm, ⟨34, _⟩ => ⟨S_, .i32⟩
  | .hbm, ⟨35, _⟩ => ⟨S4096, .i32⟩
  | .hbm, ⟨36, _⟩ => ⟨S512x4096, .i32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S1536x1024, .i8⟩
  | .hbm, ⟨41, _⟩ => ⟨S1536x512, .i8⟩
  | .hbm, ⟨42, _⟩ => ⟨S1536x512, .i8⟩
  | .hbm, ⟨43, _⟩ => ⟨S1, .i32⟩
  | .hbm, ⟨44, _⟩ => ⟨S1, .i32⟩
  | .hbm, ⟨45, _⟩ => ⟨S1536x4096, .i8⟩
  | .local _ .vmem, ⟨0, _⟩ => ⟨S1536x512, .i8⟩
  | .local _ .vmem, ⟨1, _⟩ => ⟨S1536x512, .i8⟩
  | .local _ .vmem, ⟨2, _⟩ => ⟨S512x4096, .i8⟩
  | .local _ .vmem, ⟨3, _⟩ => ⟨S512x4096, .i8⟩
  | .local _ .vmem, ⟨4, _⟩ => ⟨S4096, .i32⟩
  | .local _ .vmem, ⟨5, _⟩ => ⟨S4096, .i32⟩
  | .local _ .vmem, ⟨6, _⟩ => ⟨S4096, .i32⟩
  | .local _ .vmem, ⟨7, _⟩ => ⟨S4096, .i32⟩
  | .local _ .vmem, ⟨8, _⟩ => ⟨S1536x4096, .i8⟩
  | .local _ .vmem, ⟨9, _⟩ => ⟨S1536x4096, .i32⟩
  | .local _ .smem, ⟨0, _⟩ => ⟨S1, .i32⟩
  | .local _ .smem, ⟨1, _⟩ => ⟨S1, .i32⟩
  | _, _ => ⟨S6x256x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_c_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg10_0 : Ref sig .tc := ⟨.vmem, 8, rfl⟩
abbrev cc0_scratch0 : Ref sig .tc := ⟨.vmem, 9, rfl⟩
abbrev cc0_stg5_0 : Ref sig .tc := ⟨.smem, 0, rfl⟩
abbrev cc0_stg9_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1536x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x512 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x4096 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x4096 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelIdeal.Setup.lean ====
/-
  What the runs of the kernel body are stated over: its first branch's condition in closed form over the grid, the
  staging buffers the pipeline passes at a point, and the three scratch buffers.
-/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch, from the grid coordinates. -/
abbrev condFirst (i : grid0.Coords) : Prop :=
  (Scalar.cmpi .ne (Scalar.extui (Scalar.cmpi .eq (BitVec.ofNat 32 (i 0).val) 0#32)) 0#32) = 1#1

/-- It holds at the first point only. -/
theorem condFirst_iff : ∀ t : Fin cfg0.N, condFirst (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [condFirst, e0]
    word_cmp
   : ∀ t : Fin grid0.N, condFirst (grid0.coords t) ↔ t.val % 8 = 0)

/-- The one word of a one-word array. -/
abbrev word (x : Vec F S1 .i32) : BitVec 32 := x (Shape.Idx.first (numel1_S1.symm ▸ Nat.one_pos))

/-- The flag word read as the fast path's condition. -/
abbrev condFast (f : BitVec 32) : Prop := Scalar.cmpi .ne (Scalar.extui (Scalar.cmpi .ne f 0#32)) 0#32 = 1#1
/-- The flag word read as the slow path's condition. -/
abbrev condSlow (f : BitVec 32) : Prop := Scalar.cmpi .ne (Scalar.extui (Scalar.cmpi .eq f 0#32)) 0#32 = 1#1

theorem condFast_iff (f : BitVec 32) : condFast f ↔ f ≠ 0#32 := by
  simp only [condFast]; word_cmp; rw [ne_eq, ne_eq, ← BitVec.toNat_inj]; rfl

theorem condSlow_iff (f : BitVec 32) : condSlow f ↔ f = 0#32 := by
  simp only [condSlow]; word_cmp; rw [← BitVec.toNat_inj]; rfl

/-! ## The buffers the pipeline passes at a point -/

abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x512 .i8 := win0_7.stage (cfg0.slots t 7)
abbrev hs0_7 (t : Fin cfg0.N) : (ms0_7 t).IsWhole := hstage0_7 ((cfg0.slots t 7).cast nbuf0_7)
/-- The scratch buffers: the shifted input, the unpacked weights, the flag. -/
abbrev scX : Memref sig .tc .vmem S1536x1024 .bf16 := Memref.whole cc0_scratch0
abbrev scW : Memref sig .tc .vmem S1024x512 .bf16 := Memref.whole cc0_scratch1
abbrev scF : Memref sig .tc .smem S1 .i32 := Memref.whole cc0_scratch2

/-- The launch's invariant with the scratch buffers as memrefs owned at some contents. -/
theorem PhiA0_eq (c : Dev nD) :
    (Pipeline.ΦA spec0 c : sProp 𝕄)
      = iprop(iprop((∃ d, owns (c : Thread nD τ) scX fullShare d) ∗ (∃ d, owns (c : Thread nD τ) scW fullShare d) ∗ (∃ d, owns (c : Thread nD τ) scF fullShare d)) ∗ (∃ r, prngReg c r)) := by
  unfold Pipeline.ΦA; rw [scopedRest0_eq]; simp only [scX, scW, scF, owns_whole]; try rfl

end Cert.KernelIdeal.Gen

end
-- ==== Proof.KernelIdeal.Blocks.lean ====
/-
  What one run of the kernel body computes, as plain functions of the blocks it reads: the shifted input, the flag, the
  column block of a row vector, and the block written on the fast and on the slow path.
-/
module

public import proofs.«01_k».proof.Proof.KernelIdeal.Setup
public import Idealize.ShloMosaic.Lib.WholeRead
public import Idealize.ShloMosaic.Lib.Pointwise.Index

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The input zero point clipped to the range of an i8. -/
abbrev clipZp (w : BitVec 32) : BitVec 32 := Scalar.minsi 127#32 (Scalar.maxsi 4294967168#32 w)

/-- The input less the clipped zero point `z`, element by element: what the first point leaves in the first scratch buffer. -/
def shifted (z : BitVec 32) (x : Vec F S1536x1024 .i8) : Vec F S1536x1024 .bf16 :=
  subf (sitofp .bf16 x) (broadcast S1536x1024 (k0_pay3 (F := F) z))

/-- The flag: every bias is less than `2^23` in size, every shift is at most 13 and every multiplier is at least `2^30`; the
input zero point is an i8; the output zero point is between −128 and 128. -/
def flagWord (x0 x1 : Vec F S1 .i32) (x4 x5 x6 : Vec F S1x4096 .i32) : BitVec 32 :=
  Scalar.extui (Scalar.andi (Scalar.andi (Scalar.andi
    (Scalar.cmpf .oeq (k0_pay12 x4 x6 x5) (FloatOps.ofBits (F := F) .f32 0x00000000#32))
    (Scalar.cmpi .eq (word x0) (clipZp (word x0))))
    (Scalar.cmpi .sge (word x1) 4294967168#32))
    (Scalar.cmpi .sle (word x1) 128#32))

/-- The 512 entries of a row vector that belong to the point's column block. -/
def colsAt (i : grid0.Coords) (x : Vec F S1x4096 .i32) : Vec F S1x512 .i32 := fun y =>
  x ((Rect.unit (s := S1x4096) (k0_off1 i) S1x512.size (k0_off1_inb i)).toLoadRect.idx y)

/-- `n` rows of the shifted input, from row `o` on. -/
def rowsAt {n : ℕ} (X : Vec F S1536x1024 .bf16) (o : ℕ) (ho : o + n ≤ 1536) : Vec F ⟨2, ![n, 1024]⟩ .bf16 := fun y =>
  X (ix2 (n0 := 1536) (n1 := 1024) ⟨o + (y 0).val, Nat.lt_of_lt_of_le (Nat.add_lt_add_left (y 0).isLt o) ho⟩ (y 1))

/-- One 256-row chunk of the fast path. -/
def fastChunk (yzp : BitVec 32) (b m s : IVec S1x512 32) (W : Vec F S1024x512 .bf16) (X : Vec F S256x1024 .bf16) : IVec S256x512 8 :=
  k0_pay26 (F := F) s (k0_pay25 (k0_pay13 b) (k0_pay14 m) (k0_pay15 m) (k0_pay16 m) (k0_pay18 yzp s) (k0_pay19 yzp s) (k0_pay20 s) (k0_pay21 s) X W)

/-- One 128-row chunk of the slow path. -/
def slowChunk (xzp yzp : BitVec 32) (b m s : IVec S1x512 32) (W : Vec F S1024x512 .bf16) (X : Vec F S128x1024 .bf16) : IVec S128x512 8 :=
  k0_pay46 (F := F) yzp s (k0_pay35 (k0_pay2 xzp (clipZp xzp) b W) X W) (k0_pay43 m (k0_pay2 xzp (clipZp xzp) b W) X W)
    (k0_pay44 m (k0_pay2 xzp (clipZp xzp) b W) X W) 1073741824#32 k0_pay45

theorem chunk_le {n r : ℕ} (q : ℕ) (hq : n * q = 1536) (hr : r < 1536) : n * (r / n) + n ≤ 1536 := by
  have hn : 0 < n := Nat.pos_of_ne_zero (by rintro rfl; omega)
  have : r / n < q := Nat.div_lt_of_lt_mul (hq ▸ hr)
  calc n * (r / n) + n = n * (r / n + 1) := rfl
    _ ≤ n * q := Nat.mul_le_mul_left n this
    _ = 1536 := hq

/-- The block the fast path writes, chunk by chunk. -/
def fastOut (yzp : BitVec 32) (b m s : IVec S1x512 32) (W : Vec F S1024x512 .bf16) (X : Vec F S1536x1024 .bf16) : Vec F S1536x512 .i8 := fun y =>
  fastChunk yzp b m s W (rowsAt (n := 256) X (256 * ((y 0).val / 256)) (chunk_le 6 rfl (y 0).isLt))
    (ix2 (n0 := 256) (n1 := 512) ⟨(y 0).val % 256, Nat.mod_lt _ (by decide)⟩ (y 1))

/-- The block the slow path writes, chunk by chunk. -/
def slowOut (xzp yzp : BitVec 32) (b m s : IVec S1x512 32) (W : Vec F S1024x512 .bf16) (X : Vec F S1536x1024 .bf16) : Vec F S1536x512 .i8 := fun y =>
  slowChunk xzp yzp b m s W (rowsAt (n := 128) X (128 * ((y 0).val / 128)) (chunk_le 12 rfl (y 0).isLt))
    (ix2 (n0 := 128) (n1 := 512) ⟨(y 0).val % 128, Nat.mod_lt _ (by decide)⟩ (y 1))

/-- A load of `n` rows from row `o` of a buffer held at `X` reads those rows of `X`. -/
theorem readAt_rows {n o : ℕ} {m : Memref sig .tc .vmem S1536x1024 .bf16} (h : m.IsWhole) (X : Vec F S1536x1024 .bf16)
    (off : Fin 2 → ℕ) (eo : off = ![o, 0]) (inb : ∀ a : Fin 2, off a + (![n, 1024] : Fin 2 → ℕ) a ≤ S1536x1024.size a) (ho : o + n ≤ 1536) :
    View.readAt (Elt F) m.view (Rect.unit (s := S1536x1024) off ![n, 1024] inb).toLoadRect (h.unread X) = rowsAt X o ho := by
  subst eo
  funext y
  rw [h.readAt_unread]
  refine congrArg X (funext fun a => Fin.ext ?_)
  match a with
  | ⟨0, _⟩ => show o + 1 * (y 0).val = o + (y 0).val; omega
  | ⟨1, _⟩ => show 0 + 1 * (y 1).val = (y 1).val; omega

theorem rowsAt_congr {n o o' : ℕ} (X : Vec F S1536x1024 .bf16) (h : o = o') (ho : o + n ≤ 1536) (ho' : o' + n ≤ 1536) :
    rowsAt X o ho = rowsAt X o' ho' := by subst h; rfl

/-- Row `o + x 0` of the fast path's block, `o` a chunk's first row, is row `x 0` of that chunk. -/
theorem fastOut_at (yzp : BitVec 32) (b m s : IVec S1x512 32) (W : Vec F S1024x512 .bf16) (X : Vec F S1536x1024 .bf16)
    (y : S1536x512.Idx) (x : S256x512.Idx) (o q : ℕ) (hq : o = 256 * q) (ho : o + 256 ≤ 1536)
    (h0 : (y 0).val = o + (x 0).val) (h1 : (y 1).val = (x 1).val) :
    fastOut yzp b m s W X y = fastChunk yzp b m s W (rowsAt X o ho) x := by
  have hx : (x 0).val < 256 := (x 0).isLt
  unfold fastOut
  rw [rowsAt_congr X (show 256 * ((y 0).val / 256) = o by omega) _ ho]
  refine congrArg _ ?_
  rw [eq_ix2 (n0 := 256) (n1 := 512) x]
  exact congrArg₂ (ix2 (n0 := 256) (n1 := 512)) (Fin.ext (by show (y 0).val % 256 = (x 0).val; omega)) (Fin.ext h1)

/-- Row `o + x 0` of the slow path's block, `o` a chunk's first row, is row `x 0` of that chunk. -/
theorem slowOut_at (xzp yzp : BitVec 32) (b m s : IVec S1x512 32) (W : Vec F S1024x512 .bf16) (X : Vec F S1536x1024 .bf16)
    (y : S1536x512.Idx) (x : S128x512.Idx) (o q : ℕ) (hq : o = 128 * q) (ho : o + 128 ≤ 1536)
    (h0 : (y 0).val = o + (x 0).val) (h1 : (y 1).val = (x 1).val) :
    slowOut xzp yzp b m s W X y = slowChunk xzp yzp b m s W (rowsAt X o ho) x := by
  have hx : (x 0).val < 128 := (x 0).isLt
  unfold slowOut
  rw [rowsAt_congr X (show 128 * ((y 0).val / 128) = o by omega) _ ho]
  refine congrArg _ ?_
  rw [eq_ix2 (n0 := 128) (n1 := 512) x]
  exact congrArg₂ (ix2 (n0 := 128) (n1 := 512)) (Fin.ext (by show (y 0).val % 128 = (x 0).val; omega)) (Fin.ext h1)

/-- A load of a whole buffer held at the contents that read `X` reads `X`. -/
theorem readAt_unread_zero {sp : Space} {s : Shape} {e : EltTy} {m : Memref sig .tc sp s e} (h : m.IsWhole) (X : s.Idx → Elt F e)
    {off : Fin s.rank → ℕ} (inb : ∀ a, off a + s.size a ≤ s.size a) (h0 : ∀ a, off a = 0) :
    View.readAt (Elt F) m.view (Rect.unit (s := s) off s.size inb).toLoadRect (h.unread X) = X := by
  funext x
  rw [h.readAt_unread]
  exact congrArg X (funext fun a => Fin.ext (by rw [LoadRect.idx_apply]; simp [Rect.unit, h0]))

/-- A store that covers a whole buffer leaves what it stored. -/
theorem read_writes_zero {sp : Space} {s : Shape} {e : EltTy} (m : Memref sig .tc sp s e) (f : BufTy.Contents (Elt F) m.view.ty)
    {off : Fin s.rank → ℕ} (inb : ∀ a, off a + s.size a ≤ s.size a) (h0 : ∀ a, off a = 0) (X : s.Idx → Elt F e) :
    View.read (Elt F) m.view (m.view.writes (Elt F) f [⟨Rect.unit (s := s) off s.size inb, X⟩]) = X := by
  have ho : off = fun _ => 0 := funext h0
  subst ho
  exact funext fun y => View.read_writes_apply_of_pieces _ _ X _
    (fun p hp x => by
      rw [List.mem_singleton] at hp; subst hp
      exact congrArg X (funext fun a => Fin.ext (by show (x a).val = 0 + 1 * (x a).val; omega)))
    y ⟨_, List.mem_singleton_self _, by rw [Rect.mem_set_unit]; intro a; exact ⟨Nat.zero_le _, by simpa using (y a).isLt⟩⟩

end Cert.KernelIdeal.Gen

end
-- ==== Proof.KernelIdeal.Prologue.lean ====
/-
  The opening of the kernel body, up to its two branches. At the first point it fills the shifted input and the flag; at every
  point it unpacks the point's weights and reads the point's columns of the three row vectors.
-/
module

public import proofs.«01_k».proof.Proof.KernelIdeal.Blocks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .smem S1 .i32) (harg1 : arg1.IsWhole) (arg2 : Memref sig .tc .smem S1 .i32) (harg2 : arg2.IsWhole)
  (arg3 : Memref sig .tc .vmem S1536x1024 .i8) (harg3 : arg3.IsWhole) (arg4 : Memref sig .tc .vmem S512x512 .i8) (harg4 : arg4.IsWhole)
  (arg5 : Memref sig .tc .vmem S1x4096 .i32) (harg5 : arg5.IsWhole) (arg6 : Memref sig .tc .vmem S1x4096 .i32) (harg6 : arg6.IsWhole)
  (arg7 : Memref sig .tc .vmem S1x4096 .i32) (harg7 : arg7.IsWhole) (arg8 : Memref sig .tc .vmem S1536x512 .i8) (harg8 : arg8.IsWhole)
  (arg9 : Memref sig .tc .vmem S1536x1024 .bf16) (harg9 : arg9.IsWhole) (arg10 : Memref sig .tc .vmem S1024x512 .bf16) (harg10 : arg10.IsWhole)
  (arg11 : Memref sig .tc .smem S1 .i32) (harg11 : arg11.IsWhole)
  (x0 x1 : Vec F S1 .i32) (x2 : Vec F S1536x1024 .i8) (x3 : Vec F S512x512 .i8) (x4 x5 x6 : Vec F S1x4096 .i32)

/-- What the opening reads and leaves as it was, and the unpacked weights. -/
abbrev openPost (X9 : Vec F S1536x1024 .bf16) (f : BitVec 32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare X9 ∗ owns (c : Thread nD τ) arg10 fullShare (k0_pay47 x3) ∗ owns (c : Thread nD τ) arg11 fullShare (fun _ => f))

/-- The six 256-row stores of the first point leave the whole input shifted. -/
theorem read_shifted (z : BitVec 32) (f : BufTy.Contents (Elt F) arg9.view.ty) :
    View.read (Elt F) arg9.view (arg9.view.writes (Elt F) f
      [⟨Rect.unit (s := S1536x1024) ![1280, 0] S256x1024.size inb_S1536x1024_S256x1024_1280_0, k0_pay11 (k0_pay3 (F := F) z) (View.readAt (Elt F) arg3.view (Rect.unit (s := S1536x1024) ![1280, 0] S256x1024.size inb_S1536x1024_S256x1024_1280_0).toLoadRect (harg3.unread x2))⟩,
       ⟨Rect.unit (s := S1536x1024) ![1024, 0] S256x1024.size inb_S1536x1024_S256x1024_1024_0, k0_pay10 (k0_pay8 (View.readAt (Elt F) arg3.view (Rect.unit (s := S1536x1024) ![1024, 0] S256x1024.size inb_S1536x1024_S256x1024_1024_0).toLoadRect (harg3.unread x2))) (k0_pay9 z)⟩,
       ⟨Rect.unit (s := S1536x1024) ![768, 0] S256x1024.size inb_S1536x1024_S256x1024_768_0, k0_pay7 z (View.readAt (Elt F) arg3.view (Rect.unit (s := S1536x1024) ![768, 0] S256x1024.size inb_S1536x1024_S256x1024_768_0).toLoadRect (harg3.unread x2))⟩,
       ⟨Rect.unit (s := S1536x1024) ![512, 0] S256x1024.size inb_S1536x1024_S256x1024_512_0, k0_pay6 z (View.readAt (Elt F) arg3.view (Rect.unit (s := S1536x1024) ![512, 0] S256x1024.size inb_S1536x1024_S256x1024_512_0).toLoadRect (harg3.unread x2))⟩,
       ⟨Rect.unit (s := S1536x1024) ![256, 0] S256x1024.size inb_S1536x1024_S256x1024_256_0, k0_pay5 z (View.readAt (Elt F) arg3.view (Rect.unit (s := S1536x1024) ![256, 0] S256x1024.size inb_S1536x1024_S256x1024_256_0).toLoadRect (harg3.unread x2))⟩,
       ⟨Rect.unit (s := S1536x1024) ![0, 0] S256x1024.size inb_S1536x1024_S256x1024_0_0, k0_pay4 z (View.readAt (Elt F) arg3.view (Rect.unit (s := S1536x1024) ![0, 0] S256x1024.size inb_S1536x1024_S256x1024_0_0).toLoadRect (harg3.unread x2))⟩])
      = shifted z x2 := by
  funext y
  refine View.read_writes_apply_of_pieces _ _ (shifted z x2) _ (fun p hp x => ?_) y (View.cover_of_tiledL (s := S1536x1024) _ ![256, 1024] (by sl_kernel_rfl) y)
  simp only [List.mem_cons, List.not_mem_nil, or_false] at hp
  rcases hp with rfl | rfl | rfl | rfl | rfl | rfl <;>
    · simp only [k0_pay4, k0_pay5, k0_pay6, k0_pay7, k0_pay8, k0_pay9, k0_pay10, k0_pay11, shapeCast_self]
      exact congrArg (fun e => FloatOps.subf (FloatOps.sitofp .bf16 e) (k0_pay3 (F := F) z)) (harg3.readAt_unread x2 _ x)

/-- The first point's opening. -/
theorem open_first (hc0 : condFirst i) (E : Set ℕ) (K : _ → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg9 fullShare d) ∗ (∃ d, owns (c : Thread nD τ) arg10 fullShare d) ∗ (∃ d, owns (c : Thread nD τ) arg11 fullShare d)
        ∗ (openPost c arg1 arg2 arg3 arg4 arg5 arg6 arg7 arg9 arg10 arg11 x0 x1 x2 x3 x4 x5 x6 (shifted (clipZp (word x0)) x2) (flagWord x0 x1 x4 x5 x6)
            -∗ K ⟨word x0, word x1, clipZp (word x0), k0_pay48 (colsAt i x4), k0_pay49 (colsAt i x5), k0_pay50 (colsAt i x6), Scalar.extui (Scalar.cmpi .ne (flagWord x0 x1 x4 x5 x6) 0#32)⟩))
      ⊢ wp frame (wpE (defs₀ (F := F)) Variants.none c none) E (k0_part10 i arg1 harg1 arg2 harg2 arg3 harg3 arg4 harg4 arg5 harg5 arg6 harg6 arg7 harg7 arg8 harg8 arg9 harg9 arg10 harg10 arg11 harg11) K := by
  simp only [k0_part10_eq_skeleton]; unfold k0_part10_skel
  simp only [k0_part1_eq_skeleton, k0_part2_eq_skeleton]
  unfold openPost owns flagWord
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  sl_unfold_run_names
  have e1 : View.readAt (Elt F) arg1.view (Rect.unit (s := S1) ![0] ![1] inb_S1_S1_0).toLoadRect (harg1.unread x0) = x0 := readAt_unread_zero harg1 x0 inb_S1_S1_0 (by decide)
  have e2 : View.readAt (Elt F) arg2.view (Rect.unit (s := S1) ![0] ![1] inb_S1_S1_0).toLoadRect (harg2.unread x1) = x1 := readAt_unread_zero harg2 x1 inb_S1_S1_0 (by decide)
  have e4 : View.readAt (Elt F) arg4.view (Rect.unit (s := S512x512) ![0, 0] ![512, 512] inb_S512x512_S512x512_0_0).toLoadRect (harg4.unread x3) = x3 := readAt_unread_zero harg4 x3 inb_S512x512_S512x512_0_0 (by decide)
  have e5 : View.readAt (Elt F) arg5.view (Rect.unit (s := S1x4096) ![0, 0] ![1, 4096] inb_S1x4096_S1x4096_0_0).toLoadRect (harg5.unread x4) = x4 := readAt_unread_zero harg5 x4 inb_S1x4096_S1x4096_0_0 (by decide)
  have e6 : View.readAt (Elt F) arg6.view (Rect.unit (s := S1x4096) ![0, 0] ![1, 4096] inb_S1x4096_S1x4096_0_0).toLoadRect (harg6.unread x5) = x5 := readAt_unread_zero harg6 x5 inb_S1x4096_S1x4096_0_0 (by decide)
  have e7 : View.readAt (Elt F) arg7.view (Rect.unit (s := S1x4096) ![0, 0] ![1, 4096] inb_S1x4096_S1x4096_0_0).toLoadRect (harg7.unread x6) = x6 := readAt_unread_zero harg7 x6 inb_S1x4096_S1x4096_0_0 (by decide)
  have c5 : View.readAt (Elt F) arg5.view (Rect.unit (s := S1x4096) (k0_off1 i) ![1, 512] (k0_off1_inb i)).toLoadRect (harg5.unread x4) = colsAt i x4 := funext (harg5.readAt_unread x4 _)
  have c6 : View.readAt (Elt F) arg6.view (Rect.unit (s := S1x4096) (k0_off1 i) ![1, 512] (k0_off1_inb i)).toLoadRect (harg6.unread x5) = colsAt i x5 := funext (harg6.readAt_unread x5 _)
  have c7 : View.readAt (Elt F) arg7.view (Rect.unit (s := S1x4096) (k0_off1 i) ![1, 512] (k0_off1_inb i)).toLoadRect (harg7.unread x6) = colsAt i x6 := funext (harg7.readAt_unread x6 _)
  simp only [e1, e2, e4, e5, e6, e7, c5, c6, c7]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [HS0]
  · iexists _; isplitr
    · ipureintro; exact read_shifted arg3 harg3 arg9 x2 (clipZp (word x0)) fs0
    iexact HS0
  isplitl [HS1]
  · iexists _; isplitr
    · ipureintro; exact read_writes_zero arg10 fs1 inb_S1024x512_S1024x512_0_0 (by decide) _
    iexact HS1
  iexists _; isplitr
  · ipureintro; exact read_writes_zero arg11 fs2 inb_S1_S1_0 (by decide) _
  iexact HS2

/-- A later point's opening: the shifted input and the flag are as the first point left them. -/
theorem open_later (hc0 : ¬ condFirst i) (X9 : Vec F S1536x1024 .bf16) (f : BitVec 32) (E : Set ℕ) (K : _ → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare X9 ∗ (∃ d, owns (c : Thread nD τ) arg10 fullShare d) ∗ owns (c : Thread nD τ) arg11 fullShare (fun _ => f)
        ∗ (openPost c arg1 arg2 arg3 arg4 arg5 arg6 arg7 arg9 arg10 arg11 x0 x1 x2 x3 x4 x5 x6 X9 f
            -∗ K ⟨word x0, word x1, clipZp (word x0), k0_pay48 (colsAt i x4), k0_pay49 (colsAt i x5), k0_pay50 (colsAt i x6), Scalar.extui (Scalar.cmpi .ne f 0#32)⟩))
      ⊢ wp frame (wpE (defs₀ (F := F)) Variants.none c none) E (k0_part10 i arg1 harg1 arg2 harg2 arg3 harg3 arg4 harg4 arg5 harg5 arg6 harg6 arg7 harg7 arg8 harg8 arg9 harg9 arg10 harg10 arg11 harg11) K := by
  simp only [k0_part10_eq_skeleton]; unfold k0_part10_skel
  simp only [k0_part1_eq_skeleton, k0_part2_eq_skeleton]
  unfold openPost owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%ds1, %fs1, -, HS1⟩, ⟨%fs2, %hs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hs0; obtain rfl := harg11.eq_unread hs2
  sl_exec (disch := first | sl_exact hc0)
  sl_step
  sl_unfold_run_names
  have e1 : View.readAt (Elt F) arg1.view (Rect.unit (s := S1) ![0] ![1] inb_S1_S1_0).toLoadRect (harg1.unread x0) = x0 := readAt_unread_zero harg1 x0 inb_S1_S1_0 (by decide)
  have e2 : View.readAt (Elt F) arg2.view (Rect.unit (s := S1) ![0] ![1] inb_S1_S1_0).toLoadRect (harg2.unread x1) = x1 := readAt_unread_zero harg2 x1 inb_S1_S1_0 (by decide)
  have e4 : View.readAt (Elt F) arg4.view (Rect.unit (s := S512x512) ![0, 0] ![512, 512] inb_S512x512_S512x512_0_0).toLoadRect (harg4.unread x3) = x3 := readAt_unread_zero harg4 x3 inb_S512x512_S512x512_0_0 (by decide)
  have c5 : View.readAt (Elt F) arg5.view (Rect.unit (s := S1x4096) (k0_off1 i) ![1, 512] (k0_off1_inb i)).toLoadRect (harg5.unread x4) = colsAt i x4 := funext (harg5.readAt_unread x4 _)
  have c6 : View.readAt (Elt F) arg6.view (Rect.unit (s := S1x4096) (k0_off1 i) ![1, 512] (k0_off1_inb i)).toLoadRect (harg6.unread x5) = colsAt i x5 := funext (harg6.readAt_unread x5 _)
  have c7 : View.readAt (Elt F) arg7.view (Rect.unit (s := S1x4096) (k0_off1 i) ![1, 512] (k0_off1_inb i)).toLoadRect (harg7.unread x6) = colsAt i x6 := funext (harg7.readAt_unread x6 _)
  have e11 : View.readAt (Elt F) arg11.view (Rect.unit (s := S1) ![0] ![1] inb_S1_S1_0).toLoadRect (harg11.unread fun _ => f) = fun _ => f := readAt_unread_zero harg11 _ inb_S1_S1_0 (by decide)
  simp only [e1, e2, e4, e11, c5, c6, c7]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [HS0]
  · iexists _; isplitr; · ipureintro; exact harg9.read_unread _
    iexact HS0
  isplitl [HS1]
  · iexists _; isplitr
    · ipureintro; exact read_writes_zero arg10 fs1 inb_S1024x512_S1024x512_0_0 (by decide) _
    iexact HS1
  iexists _; isplitr; · ipureintro; exact harg11.read_unread _
  iexact HS2

end Cert.KernelIdeal.Gen

end
-- ==== Proof.KernelIdeal.Fast.lean ====
/-
  The kernel body on the fast path: six chunks of 256 rows.
-/
module

public import proofs.«01_k».proof.Proof.KernelIdeal.Prologue

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .smem S1 .i32) (harg1 : arg1.IsWhole) (arg2 : Memref sig .tc .smem S1 .i32) (harg2 : arg2.IsWhole)
  (arg3 : Memref sig .tc .vmem S1536x1024 .i8) (harg3 : arg3.IsWhole) (arg4 : Memref sig .tc .vmem S512x512 .i8) (harg4 : arg4.IsWhole)
  (arg5 : Memref sig .tc .vmem S1x4096 .i32) (harg5 : arg5.IsWhole) (arg6 : Memref sig .tc .vmem S1x4096 .i32) (harg6 : arg6.IsWhole)
  (arg7 : Memref sig .tc .vmem S1x4096 .i32) (harg7 : arg7.IsWhole) (arg8 : Memref sig .tc .vmem S1536x512 .i8) (harg8 : arg8.IsWhole)
  (arg9 : Memref sig .tc .vmem S1536x1024 .bf16) (harg9 : arg9.IsWhole) (arg10 : Memref sig .tc .vmem S1024x512 .bf16) (harg10 : arg10.IsWhole)
  (arg11 : Memref sig .tc .smem S1 .i32) (harg11 : arg11.IsWhole)
  (x0 x1 : Vec F S1 .i32) (x2 : Vec F S1536x1024 .i8) (x3 : Vec F S512x512 .i8) (x4 x5 x6 : Vec F S1x4096 .i32)

/-- The six 256-row stores of the fast path leave its block. -/
theorem read_fast (yzp : BitVec 32) (b m s : IVec S1x512 32) (W : Vec F S1024x512 .bf16) (X : Vec F S1536x1024 .bf16) (f : BufTy.Contents (Elt F) arg8.view.ty) :
    View.read (Elt F) arg8.view (arg8.view.writes (Elt F) f
      [⟨Rect.unit (s := S1536x512) ![1280, 0] S256x512.size inb_S1536x512_S256x512_1280_0, k0_pay1 s (k0_pay32 (k0_pay13 b) (k0_pay14 m) (k0_pay15 m) (k0_pay16 m) (k0_pay18 yzp s) (k0_pay19 yzp s) (k0_pay20 s) (k0_pay21 s) (View.readAt (Elt F) arg9.view (Rect.unit (s := S1536x1024) ![1280, 0] S256x1024.size inb_S1536x1024_S256x1024_1280_0).toLoadRect (harg9.unread X)) W)⟩,
       ⟨Rect.unit (s := S1536x512) ![1024, 0] S256x512.size inb_S1536x512_S256x512_1024_0, k0_pay31 s (k0_pay16 m) (k0_pay18 yzp s) (k0_pay19 yzp s) (k0_pay20 s) (k0_pay21 s) (k0_pay29 (k0_pay13 b) (View.readAt (Elt F) arg9.view (Rect.unit (s := S1536x1024) ![1024, 0] S256x1024.size inb_S1536x1024_S256x1024_1024_0).toLoadRect (harg9.unread X)) W) (k0_pay30 (k0_pay13 b) (k0_pay14 m) (k0_pay15 m) (View.readAt (Elt F) arg9.view (Rect.unit (s := S1536x1024) ![1024, 0] S256x1024.size inb_S1536x1024_S256x1024_1024_0).toLoadRect (harg9.unread X)) W)⟩,
       ⟨Rect.unit (s := S1536x512) ![768, 0] S256x512.size inb_S1536x512_S256x512_768_0, k0_pay28 s (k0_pay13 b) (k0_pay14 m) (k0_pay15 m) (k0_pay16 m) (k0_pay18 yzp s) (k0_pay19 yzp s) (k0_pay20 s) (k0_pay21 s) (View.readAt (Elt F) arg9.view (Rect.unit (s := S1536x1024) ![768, 0] S256x1024.size inb_S1536x1024_S256x1024_768_0).toLoadRect (harg9.unread X)) W⟩,
       ⟨Rect.unit (s := S1536x512) ![512, 0] S256x512.size inb_S1536x512_S256x512_512_0, k0_pay27 s (k0_pay13 b) (k0_pay14 m) (k0_pay15 m) (k0_pay16 m) (k0_pay18 yzp s) (k0_pay19 yzp s) (k0_pay20 s) (k0_pay21 s) (View.readAt (Elt F) arg9.view (Rect.unit (s := S1536x1024) ![512, 0] S256x1024.size inb_S1536x1024_S256x1024_512_0).toLoadRect (harg9.unread X)) W⟩,
       ⟨Rect.unit (s := S1536x512) ![256, 0] S256x512.size inb_S1536x512_S256x512_256_0, k0_pay26 (F := F) s (k0_pay25 (k0_pay13 b) (k0_pay14 m) (k0_pay15 m) (k0_pay16 m) (k0_pay18 yzp s) (k0_pay19 yzp s) (k0_pay20 s) (k0_pay21 s) (View.readAt (Elt F) arg9.view (Rect.unit (s := S1536x1024) ![256, 0] S256x1024.size inb_S1536x1024_S256x1024_256_0).toLoadRect (harg9.unread X)) W)⟩,
       ⟨Rect.unit (s := S1536x512) ![0, 0] S256x512.size inb_S1536x512_S256x512_0_0, k0_pay24 s (k0_pay15 m) (k0_pay16 m) (k0_pay18 yzp s) (k0_pay19 yzp s) (k0_pay20 s) (k0_pay21 s) (k0_pay22 b (View.readAt (Elt F) arg9.view (Rect.unit (s := S1536x1024) ![0, 0] S256x1024.size inb_S1536x1024_S256x1024_0_0).toLoadRect (harg9.unread X)) W) (k0_pay23 b m (View.readAt (Elt F) arg9.view (Rect.unit (s := S1536x1024) ![0, 0] S256x1024.size inb_S1536x1024_S256x1024_0_0).toLoadRect (harg9.unread X)) W)⟩])
      = fastOut yzp b m s W X := by
  funext y
  refine View.read_writes_apply_of_pieces _ _ (fastOut yzp b m s W X) _ (fun p hp x => ?_) y (View.cover_of_tiledL (s := S1536x512) _ ![256, 512] (by sl_kernel_rfl) y)
  have h1 : ∀ x : Fin 512, 0 + 1 * x.val = x.val := fun _ => by omega
  have h0 : ∀ (o : ℕ) (x : Fin 256), o + 1 * x.val = o + x.val := fun _ _ => by omega
  simp only [List.mem_cons, List.not_mem_nil, or_false] at hp
  rcases hp with rfl | rfl | rfl | rfl | rfl | rfl
  · refine Eq.trans ?_ (fastOut_at yzp b m s W X _ x 1280 5 rfl (by decide) (h0 1280 (x 0)) (h1 (x 1))).symm
    rw [← readAt_rows harg9 X _ rfl inb_S1536x1024_S256x1024_1280_0]; rfl
  · refine Eq.trans ?_ (fastOut_at yzp b m s W X _ x 1024 4 rfl (by decide) (h0 1024 (x 0)) (h1 (x 1))).symm
    rw [← readAt_rows harg9 X _ rfl inb_S1536x1024_S256x1024_1024_0]; rfl
  · refine Eq.trans ?_ (fastOut_at yzp b m s W X _ x 768 3 rfl (by decide) (h0 768 (x 0)) (h1 (x 1))).symm
    rw [← readAt_rows harg9 X _ rfl inb_S1536x1024_S256x1024_768_0]; rfl
  · refine Eq.trans ?_ (fastOut_at yzp b m s W X _ x 512 2 rfl (by decide) (h0 512 (x 0)) (h1 (x 1))).symm
    rw [← readAt_rows harg9 X _ rfl inb_S1536x1024_S256x1024_512_0]; rfl
  · refine Eq.trans ?_ (fastOut_at yzp b m s W X _ x 256 1 rfl (by decide) (h0 256 (x 0)) (h1 (x 1))).symm
    rw [← readAt_rows harg9 X _ rfl inb_S1536x1024_S256x1024_256_0]; rfl
  · refine Eq.trans ?_ (fastOut_at yzp b m s W X _ x 0 0 rfl (by decide) (h0 0 (x 0)) (h1 (x 1))).symm
    rw [← readAt_rows harg9 X _ rfl inb_S1536x1024_S256x1024_0_0]; rfl

/-- The whole body when the flag is set: the output block is the fast path’s. -/
theorem body_fast (X9 : Vec F S1536x1024 .bf16) (f : BitVec 32) (hf : f ≠ 0#32) (PRE : sProp 𝕄)
    (E : Set ℕ)
    (hopen : ∀ K : _ → sProp 𝕄, iprop(PRE ∗ (openPost c arg1 arg2 arg3 arg4 arg5 arg6 arg7 arg9 arg10 arg11 x0 x1 x2 x3 x4 x5 x6 X9 f
            -∗ K ⟨word x0, word x1, clipZp (word x0), k0_pay48 (colsAt i x4), k0_pay49 (colsAt i x5), k0_pay50 (colsAt i x6), Scalar.extui (Scalar.cmpi .ne f 0#32)⟩))
      ⊢ wp frame (wpE (defs₀ (F := F)) Variants.none c none) E (k0_part10 i arg1 harg1 arg2 harg2 arg3 harg3 arg4 harg4 arg5 harg5 arg6 harg6 arg7 harg7 arg8 harg8 arg9 harg9 arg10 harg10 arg11 harg11) K)
    (K : PUnit → sProp 𝕄) :
    iprop(PRE ∗ (∃ d, owns (c : Thread nD τ) arg8 fullShare d)
        ∗ (iprop(openPost c arg1 arg2 arg3 arg4 arg5 arg6 arg7 arg9 arg10 arg11 x0 x1 x2 x3 x4 x5 x6 X9 f
            ∗ owns (c : Thread nD τ) arg8 fullShare (fastOut (word x1) (k0_pay48 (colsAt i x4)) (k0_pay49 (colsAt i x5)) (k0_pay50 (colsAt i x6)) (k0_pay47 x3) X9)) -∗ K ⟨⟩))
      ⊢ wp frame (wpE (defs₀ (F := F)) Variants.none c none) E (cc0_int4_linear i arg1 harg1 arg2 harg2 arg3 harg3 arg4 harg4 arg5 harg5 arg6 harg6 arg7 harg7 arg8 harg8 arg9 harg9 arg10 harg10 arg11 harg11) K := by
  have hfast : condFast f := (condFast_iff f).mpr hf
  have hslow : ¬ condSlow f := fun h => hf ((condSlow_iff f).mp h)
  simp only [cc0_int4_linear_eq_skeleton]; unfold cc0_int4_linear_skel
  rw [wp_bind]
  iintro ⟨HP, ⟨%d8, H8⟩, Hk⟩
  iapply (hopen _)
  isplitl [HP]; · iexact HP
  unfold openPost owns
  icases H8 with ⟨%f8, -, H8⟩
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, ⟨%fs2, %hs2, HS2⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hs0; obtain rfl := harg10.eq_unread hs1; obtain rfl := harg11.eq_unread hs2
  have e11 : View.readAt (Elt F) arg11.view (Rect.unit (s := S1) ![0] ![1] inb_S1_S1_0).toLoadRect (harg11.unread fun _ => f) = fun _ => f := readAt_unread_zero harg11 _ inb_S1_S1_0 (by decide)
  simp only [k0_part3_eq_skeleton, k0_part4_eq_skeleton, k0_part5_eq_skeleton, k0_part6_eq_skeleton, k0_part7_eq_skeleton]
  sl_exec (disch := first | (rw [e11]; sl_exact hfast) | (rw [e11]; sl_exact hslow) | sl_exact hfast | sl_exact hslow)
  sl_step
  sl_unfold_run_names
  have e10 : View.readAt (Elt F) arg10.view (Rect.unit (s := S1024x512) ![0, 0] S1024x512.size inb_S1024x512_S1024x512_0_0).toLoadRect (harg10.unread (k0_pay47 x3)) = k0_pay47 x3 := readAt_unread_zero harg10 _ inb_S1024x512_S1024x512_0_0 (by decide)
  simp only [e10]
  iapply Hk
  isplitr [H8]
  rotate_left
  · iexists _; isplitr
    · ipureintro; exact read_fast arg8 arg9 harg9 (word x1) _ _ _ _ X9 f8
    iexact H8
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [HS0]
  · iexists _; isplitr; · ipureintro; exact harg9.read_unread _
    iexact HS0
  isplitl [HS1]
  · iexists _; isplitr; · ipureintro; exact harg10.read_unread _
    iexact HS1
  iexists _; isplitr; · ipureintro; exact harg11.read_unread _
  iexact HS2

end Cert.KernelIdeal.Gen

end
-- ==== Proof.KernelIdeal.Slow.lean ====
/-
  The kernel body on the slow path: a loop over twelve chunks of 128 rows.
-/
module

public import proofs.«01_k».proof.Proof.KernelIdeal.Prologue

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .smem S1 .i32) (harg1 : arg1.IsWhole) (arg2 : Memref sig .tc .smem S1 .i32) (harg2 : arg2.IsWhole)
  (arg3 : Memref sig .tc .vmem S1536x1024 .i8) (harg3 : arg3.IsWhole) (arg4 : Memref sig .tc .vmem S512x512 .i8) (harg4 : arg4.IsWhole)
  (arg5 : Memref sig .tc .vmem S1x4096 .i32) (harg5 : arg5.IsWhole) (arg6 : Memref sig .tc .vmem S1x4096 .i32) (harg6 : arg6.IsWhole)
  (arg7 : Memref sig .tc .vmem S1x4096 .i32) (harg7 : arg7.IsWhole) (arg8 : Memref sig .tc .vmem S1536x512 .i8) (harg8 : arg8.IsWhole)
  (arg9 : Memref sig .tc .vmem S1536x1024 .bf16) (harg9 : arg9.IsWhole) (arg10 : Memref sig .tc .vmem S1024x512 .bf16) (harg10 : arg10.IsWhole)
  (arg11 : Memref sig .tc .smem S1 .i32) (harg11 : arg11.IsWhole)
  (x0 x1 : Vec F S1 .i32) (x2 : Vec F S1536x1024 .i8) (x3 : Vec F S512x512 .i8) (x4 x5 x6 : Vec F S1x4096 .i32)
section
variable (v0 v1 : BitVec 32) (b m s : IVec S1x512 32) (W : Vec F S1024x512 .bf16) (X : Vec F S1536x1024 .bf16)

theorem trips_eq : k0_t1_loop.trips = 12 := by decide

theorem trips_le (k : Fin k0_t1_loop.trips) : 128 * k.val + 128 ≤ 1536 := by
  have : k.val < 12 := Nat.lt_of_lt_of_eq k.isLt trips_eq
  omega

/-- One pass of the loop stores one chunk: rows `128 k` to `128 k + 127`. -/
theorem tripL_eq (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 v0 v1 (clipZp v0) b m s W (harg9.unread X) (harg10.unread W) k
      = [⟨Rect.unit (s := S1536x512) (k0_off3 k) S128x512.size (k0_off3_inb k), slowChunk v0 v1 b m s W (rowsAt X (128 * k.val) (trips_le k))⟩] := by
  rw [← readAt_rows harg9 X (k0_off2 k) (k0_off2_eq k) (k0_off2_inb k) (trips_le k)]
  unfold tripL_k0_t1 trip_k0_t1
  dsimp only
  sl_unfold_run_names
  rw [readAt_unread_zero harg10 W inb_S1024x512_S1024x512_0_0 (by decide)]
  rfl

/-- Every store of the first `k` passes writes entries of the slow path's block. -/
theorem pieces_slow (k : ℕ) (hk : k ≤ 12) : ∀ p ∈ (pb_k0_t1 (F := F) Variants.none c none i arg1 harg1 arg2 harg2 arg3 harg3 arg4 harg4 arg5 harg5 arg6 harg6 arg7 harg7 arg8 harg8 arg9 harg9 arg10 harg10 arg11 harg11 v0 v1 (clipZp v0) b m s W (harg9.unread X) (harg10.unread W) k), ∀ x, p.2 x = slowOut v0 v1 b m s W X (p.1.emb x) := by
  induction k with
  | zero => intro p hp; exact absurd hp (by simp [pb_k0_t1])
  | succ k ih =>
    intro p hp x
    rw [pb_k0_t1_succ Variants.none c none i arg1 harg1 arg2 harg2 arg3 harg3 arg4 harg4 arg5 harg5 arg6 harg6 arg7 harg7 arg8 harg8 arg9 harg9 arg10 harg10 arg11 harg11 v0 v1 (clipZp v0) b m s W (harg9.unread X) (harg10.unread W) (⟨k, Nat.lt_of_lt_of_eq hk trips_eq.symm⟩ : Fin k0_t1_loop.trips), tripL_eq, List.mem_append, List.mem_singleton] at hp
    rcases hp with rfl | hp
    · have e : k0_off3 (⟨k, Nat.lt_of_lt_of_eq hk trips_eq.symm⟩ : Fin k0_t1_loop.trips) = ![128 * k, 0] := k0_off3_eq _
      refine (slowOut_at v0 v1 b m s W X _ x (128 * k) k rfl (trips_le ⟨k, Nat.lt_of_lt_of_eq hk trips_eq.symm⟩) ?_ ?_).symm
      · exact (congrArg (· + 1 * (x 0).val) (congrFun e 0)).trans (congrArg (128 * k + ·) (Nat.one_mul _))
      · exact (congrArg (· + 1 * (x 1).val) (congrFun e 1)).trans ((Nat.zero_add _).trans (Nat.one_mul _))
    · exact ih (by omega) p hp x

/-- The first `k` passes reach every row below `128 k`. -/
theorem cover_slow (k : ℕ) (hk : k ≤ 12) (y : S1536x512.Idx) (hy : (y 0).val < 128 * k) : ∃ p ∈ (pb_k0_t1 (F := F) Variants.none c none i arg1 harg1 arg2 harg2 arg3 harg3 arg4 harg4 arg5 harg5 arg6 harg6 arg7 harg7 arg8 harg8 arg9 harg9 arg10 harg10 arg11 harg11 v0 v1 (clipZp v0) b m s W (harg9.unread X) (harg10.unread W) k), y ∈ p.1.set := by
  induction k with
  | zero => omega
  | succ k ih =>
    rw [pb_k0_t1_succ Variants.none c none i arg1 harg1 arg2 harg2 arg3 harg3 arg4 harg4 arg5 harg5 arg6 harg6 arg7 harg7 arg8 harg8 arg9 harg9 arg10 harg10 arg11 harg11 v0 v1 (clipZp v0) b m s W (harg9.unread X) (harg10.unread W) (⟨k, Nat.lt_of_lt_of_eq hk trips_eq.symm⟩ : Fin k0_t1_loop.trips), tripL_eq]
    by_cases hlt : (y 0).val < 128 * k
    · obtain ⟨p, hp, hm⟩ := ih (by omega) hlt
      exact ⟨p, List.mem_append_right _ hp, hm⟩
    · refine ⟨_, List.mem_append_left _ (List.mem_singleton_self _), ?_⟩
      rw [Rect.mem_set_unit, k0_off3_eq]
      have h1 : (y 1).val < 512 := (y 1).isLt
      intro a
      match a with
      | ⟨0, _⟩ => exact ⟨show 128 * k ≤ (y 0).val by omega, show (y 0).val < 128 * k + 128 by omega⟩
      | ⟨1, _⟩ => exact ⟨Nat.zero_le _, show (y 1).val < 0 + 512 by omega⟩

/-- The twelve passes leave the slow path's block. -/
theorem read_slow (f : BufTy.Contents (Elt F) arg8.view.ty) :
    View.read (Elt F) arg8.view (arg8.view.writes (Elt F) f (pb_k0_t1 (F := F) Variants.none c none i arg1 harg1 arg2 harg2 arg3 harg3 arg4 harg4 arg5 harg5 arg6 harg6 arg7 harg7 arg8 harg8 arg9 harg9 arg10 harg10 arg11 harg11 v0 v1 (clipZp v0) b m s W (harg9.unread X) (harg10.unread W) (Scf.trips k0_t1_loop.lb k0_t1_loop.ub k0_t1_loop.st))) = slowOut v0 v1 b m s W X := by
  funext y
  have h0 : (y 0).val < 1536 := (y 0).isLt
  have e : Scf.trips k0_t1_loop.lb k0_t1_loop.ub k0_t1_loop.st = 12 := by decide
  rw [e]
  exact View.read_writes_apply_of_pieces _ _ _ _
    (pieces_slow c i arg1 harg1 arg2 harg2 arg3 harg3 arg4 harg4 arg5 harg5 arg6 harg6 arg7 harg7 arg8 harg8 arg9 harg9 arg10 harg10 arg11 harg11 v0 v1 b m s W X 12 le_rfl) y
    (cover_slow c i arg1 harg1 arg2 harg2 arg3 harg3 arg4 harg4 arg5 harg5 arg6 harg6 arg7 harg7 arg8 harg8 arg9 harg9 arg10 harg10 arg11 harg11 v0 v1 b m s W X 12 le_rfl y (by omega))

end

/-- The whole body when the flag is not set: the output block is the slow path’s. -/
theorem body_slow (X9 : Vec F S1536x1024 .bf16) (f : BitVec 32) (hf : f = 0#32) (PRE : sProp 𝕄)
    (E : Set ℕ)
    (hopen : ∀ K : _ → sProp 𝕄, iprop(PRE ∗ (openPost c arg1 arg2 arg3 arg4 arg5 arg6 arg7 arg9 arg10 arg11 x0 x1 x2 x3 x4 x5 x6 X9 f
            -∗ K ⟨word x0, word x1, clipZp (word x0), k0_pay48 (colsAt i x4), k0_pay49 (colsAt i x5), k0_pay50 (colsAt i x6), Scalar.extui (Scalar.cmpi .ne f 0#32)⟩))
      ⊢ wp frame (wpE (defs₀ (F := F)) Variants.none c none) E (k0_part10 i arg1 harg1 arg2 harg2 arg3 harg3 arg4 harg4 arg5 harg5 arg6 harg6 arg7 harg7 arg8 harg8 arg9 harg9 arg10 harg10 arg11 harg11) K)
    (K : PUnit → sProp 𝕄) :
    iprop(PRE ∗ (∃ d, owns (c : Thread nD τ) arg8 fullShare d)
        ∗ (iprop(openPost c arg1 arg2 arg3 arg4 arg5 arg6 arg7 arg9 arg10 arg11 x0 x1 x2 x3 x4 x5 x6 X9 f
            ∗ owns (c : Thread nD τ) arg8 fullShare (slowOut (word x0) (word x1) (k0_pay48 (colsAt i x4)) (k0_pay49 (colsAt i x5)) (k0_pay50 (colsAt i x6)) (k0_pay47 x3) X9)) -∗ K ⟨⟩))
      ⊢ wp frame (wpE (defs₀ (F := F)) Variants.none c none) E (cc0_int4_linear i arg1 harg1 arg2 harg2 arg3 harg3 arg4 harg4 arg5 harg5 arg6 harg6 arg7 harg7 arg8 harg8 arg9 harg9 arg10 harg10 arg11 harg11) K := by
  have hfast : ¬ condFast f := fun h => (condFast_iff f).mp h hf
  have hslow : condSlow f := (condSlow_iff f).mpr hf
  simp only [cc0_int4_linear_eq_skeleton]; unfold cc0_int4_linear_skel
  rw [wp_bind]
  iintro ⟨HP, ⟨%d8, H8⟩, Hk⟩
  iapply (hopen _)
  isplitl [HP]; · iexact HP
  unfold openPost owns
  icases H8 with ⟨%f8, -, H8⟩
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, ⟨%fs2, %hs2, HS2⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hs0; obtain rfl := harg10.eq_unread hs1; obtain rfl := harg11.eq_unread hs2
  have e11 : View.readAt (Elt F) arg11.view (Rect.unit (s := S1) ![0] ![1] inb_S1_S1_0).toLoadRect (harg11.unread fun _ => f) = fun _ => f := readAt_unread_zero harg11 _ inb_S1_S1_0 (by decide)
  simp only [k0_part3_eq_skeleton, k0_part4_eq_skeleton, k0_part5_eq_skeleton, k0_part6_eq_skeleton, k0_part7_eq_skeleton]
  sl_exec (disch := first | (rw [e11]; sl_exact hfast) | (rw [e11]; sl_exact hslow) | sl_exact hfast | sl_exact hslow)
  sl_step
  sl_unfold_run_names
  have e10 : View.readAt (Elt F) arg10.view (Rect.unit (s := S1024x512) ![0, 0] S1024x512.size inb_S1024x512_S1024x512_0_0).toLoadRect (harg10.unread (k0_pay47 x3)) = k0_pay47 x3 := readAt_unread_zero harg10 _ inb_S1024x512_S1024x512_0_0 (by decide)
  simp only [e10]
  iapply Hk
  isplitr [H8]
  rotate_left
  · iexists _; isplitr
    · ipureintro; exact read_slow c i arg1 harg1 arg2 harg2 arg3 harg3 arg4 harg4 arg5 harg5 arg6 harg6 arg7 harg7 arg8 harg8 arg9 harg9 arg10 harg10 arg11 harg11 (word x0) (word x1) _ _ _ _ X9 f8
    iexact H8
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [HS0]
  · iexists _; isplitr; · ipureintro; exact harg9.read_unread _
    iexact HS0
  isplitl [HS1]
  · iexists _; isplitr; · ipureintro; exact harg10.read_unread _
    iexact HS1
  iexists _; isplitr; · ipureintro; exact harg11.read_unread _
  iexact HS2

end Cert.KernelIdeal.Gen

end
-- ==== Proof.KernelIdeal.Frame.lean ====
/-
  The kernel's run: what every point leaves in the output's staging buffer and in the scratch buffers, the body's
  obligation, and the frame.
-/
module

public import proofs.«01_k».proof.Proof.KernelIdeal.Fast
public import proofs.«01_k».proof.Proof.KernelIdeal.Slow
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def t0 : Fin cfg0.N := ⟨0, Nat.lt_of_lt_of_eq (by decide) N_0.symm⟩

/-- What the first point leaves in the scratch for the shifted input, -/
def carriedX (c : Dev nD) : Vec F S1536x1024 .bf16 := shifted (clipZp (word (iblk m c 0 t0))) (iblk m c 2 t0)

/-- and in the scratch for the flag; the later points only read both. -/
def carriedF (c : Dev nD) : BitVec 32 := flagWord (iblk m c 0 t0) (iblk m c 1 t0) (iblk m c 4 t0) (iblk m c 5 t0) (iblk m c 6 t0)

/-- What point `t` leaves in the output's staging buffer: the fast path's block if the flag is set, the slow path's if not. -/
def outBlk (c : Dev nD) (t : Fin cfg0.N) : Vec F S1536x512 .i8 :=
  if carriedF m c ≠ 0#32 then
    fastOut (word (iblk m c 1 t)) (k0_pay48 (colsAt (grid0.coords t) (iblk m c 4 t))) (k0_pay49 (colsAt (grid0.coords t) (iblk m c 5 t)))
      (k0_pay50 (colsAt (grid0.coords t) (iblk m c 6 t))) (k0_pay47 (iblk m c 3 t)) (carriedX m c)
  else
    slowOut (word (iblk m c 0 t)) (word (iblk m c 1 t)) (k0_pay48 (colsAt (grid0.coords t) (iblk m c 4 t))) (k0_pay49 (colsAt (grid0.coords t) (iblk m c 5 t)))
      (k0_pay50 (colsAt (grid0.coords t) (iblk m c 6 t))) (k0_pay47 (iblk m c 3 t)) (carriedX m c)

/-- The invariant before point `n`: at first the launch's; afterwards the shifted input and the flag are in their scratch
buffers, the scratch for the unpacked weights holds anything. -/
def PhiS (c : Dev nD) : (n : ℕ) → n ≤ cfg0.N → sProp 𝕄
  | 0, _ => Pipeline.ΦA spec0 c
  | n + 1, hn => iprop(iprop(owns (c : Thread nD τ) scX fullShare (carriedX m c) ∗ (∃ d, owns (c : Thread nD τ) scW fullShare d) ∗ owns (c : Thread nD τ) scF fullShare (fun _ => carriedF m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scX fullShare (carriedX m c) ∗ (∃ d, owns (c : Thread nD τ) scW fullShare d) ∗ owns (c : Thread nD τ) scF fullShare (fun _ => carriedF m c)) ∗ (∃ r, prngReg c r)) := by
  cases n with
  | zero => exact absurd rfl hz
  | succ n => rfl

/-! ## The pipeline's proof data -/

/-- The arrays as the region finds them; after the body each input's buffer at its block, the output's at `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlk m c t := by dsimp only [dats]

/-! Each input's staging buffer holds its block before the body. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The body after its opening part, on either path. -/
theorem body_either (c : Dev nD) (t : Fin cfg0.N) (PRE : sProp 𝕄)
    (hopen : ∀ K : _ → sProp 𝕄, iprop(PRE ∗ (openPost c (ms0_0 t) (ms0_1 t) (ms0_2 t) (ms0_3 t) (ms0_4 t) (ms0_5 t) (ms0_6 t) scX scW scF (iblk m c 0 t) (iblk m c 1 t) (iblk m c 2 t) (iblk m c 3 t) (iblk m c 4 t) (iblk m c 5 t) (iblk m c 6 t) (carriedX m c) (carriedF m c)
            -∗ K ⟨word (iblk m c 0 t), word (iblk m c 1 t), clipZp (word (iblk m c 0 t)), k0_pay48 (colsAt (grid0.coords t) (iblk m c 4 t)), k0_pay49 (colsAt (grid0.coords t) (iblk m c 5 t)), k0_pay50 (colsAt (grid0.coords t) (iblk m c 6 t)), Scalar.extui (Scalar.cmpi .ne (carriedF m c) 0#32)⟩))
      ⊢ wp frame (wpE (defs₀ (F := F)) Variants.none c none) Set.univ (k0_part10 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scX (Memref.isWhole_whole _) scW (Memref.isWhole_whole _) scF (Memref.isWhole_whole _)) K)
    (K : PUnit → sProp 𝕄) :
    iprop(PRE ∗ (∃ d, owns (c : Thread nD τ) (ms0_7 t) fullShare d)
        ∗ (iprop(openPost c (ms0_0 t) (ms0_1 t) (ms0_2 t) (ms0_3 t) (ms0_4 t) (ms0_5 t) (ms0_6 t) scX scW scF (iblk m c 0 t) (iblk m c 1 t) (iblk m c 2 t) (iblk m c 3 t) (iblk m c 4 t) (iblk m c 5 t) (iblk m c 6 t) (carriedX m c) (carriedF m c)
            ∗ owns (c : Thread nD τ) (ms0_7 t) fullShare (outBlk m c t)) -∗ K ⟨⟩))
      ⊢ wp frame (wpE (defs₀ (F := F)) Variants.none c none) Set.univ (bodyAt0 t) K := by
  by_cases hf : carriedF m c ≠ 0#32
  · have e : outBlk m c t = _ := if_pos hf
    rw [e]
    exact body_fast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scX (Memref.isWhole_whole _) scW (Memref.isWhole_whole _) scF (Memref.isWhole_whole _) (iblk m c 0 t) (iblk m c 1 t) (iblk m c 2 t) (iblk m c 3 t) (iblk m c 4 t) (iblk m c 5 t) (iblk m c 6 t) (carriedX m c) (carriedF m c) hf PRE Set.univ hopen K
  · have e : outBlk m c t = _ := if_neg hf
    rw [e]
    exact body_slow c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scX (Memref.isWhole_whole _) scW (Memref.isWhole_whole _) scF (Memref.isWhole_whole _) (iblk m c 0 t) (iblk m c 1 t) (iblk m c 2 t) (iblk m c 3 t) (iblk m c 4 t) (iblk m c 5 t) (iblk m c 6 t) (carriedX m c) (carriedF m c) (not_not.mp hf) PRE Set.univ hopen K

/-- The body at any point: the first point fills the scratch buffers, the later ones find them filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_pos m c _ _ (Nat.succ_ne_zero _)]
  by_cases hz : t.val = 0
  · obtain rfl : t = t0 := Fin.ext hz
    rw [PhiS_castSucc m c t0, PhiS_zero m c _ _ hz, PhiA0_eq]
    have hc0 : condFirst (grid0.coords t0) := (condFirst_iff t0).mpr rfl
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_either m c t0 iprop(owns (c : Thread nD τ) (ms0_0 t0) fullShare (iblk m c 0 t0) ∗ owns (c : Thread nD τ) (ms0_1 t0) fullShare (iblk m c 1 t0) ∗ owns (c : Thread nD τ) (ms0_2 t0) fullShare (iblk m c 2 t0) ∗ owns (c : Thread nD τ) (ms0_3 t0) fullShare (iblk m c 3 t0) ∗ owns (c : Thread nD τ) (ms0_4 t0) fullShare (iblk m c 4 t0) ∗ owns (c : Thread nD τ) (ms0_5 t0) fullShare (iblk m c 5 t0) ∗ owns (c : Thread nD τ) (ms0_6 t0) fullShare (iblk m c 6 t0) ∗ (∃ d, owns (c : Thread nD τ) scX fullShare d) ∗ (∃ d, owns (c : Thread nD τ) scW fullShare d) ∗ (∃ d, owns (c : Thread nD τ) scF fullShare d)) (fun K => by
      iintro ⟨⟨H0, H1, H2, H3, H4, H5, H6, HS0, HS1, HS2⟩, Hk⟩
      iapply (open_first c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scX (Memref.isWhole_whole _) scW (Memref.isWhole_whole _) scF (Memref.isWhole_whole _) (iblk m c 0 t0) (iblk m c 1 t0) (iblk m c 2 t0) (iblk m c 3 t0) (iblk m c 4 t0) (iblk m c 5 t0) (iblk m c 6 t0) hc0 Set.univ K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iexact Hk) _)
    isplitl [H0 H1 H2 H3 H4 H5 H6 HS0 HS1 HS2]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iexact HS2
    isplitl [H7]; · iexists _; iexact H7
    unfold openPost
    iintro ⟨⟨H0, H1, H2, H3, H4, H5, H6, HS0, HS1, HS2⟩, H7⟩
    isplitl [HS0 HS1 HS2 Hg]
    · isplitl [HS0 HS1 HS2]
      · isplitl [HS0]; · iexact HS0
        isplitl [HS1]; · iexists _; iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_castSucc m c t, PhiS_pos m c _ _ hz]
    have hN : t.val < 8 := Nat.lt_of_lt_of_eq t.isLt N_0
    have hc0 : ¬ condFirst (grid0.coords t) := fun h => hz (by have := (condFirst_iff t).mp h; omega)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_either m c t iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) scX fullShare (carriedX m c) ∗ (∃ d, owns (c : Thread nD τ) scW fullShare d) ∗ owns (c : Thread nD τ) scF fullShare (fun _ => carriedF m c)) (fun K => by
      iintro ⟨⟨H0, H1, H2, H3, H4, H5, H6, HS0, HS1, HS2⟩, Hk⟩
      iapply (open_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scX (Memref.isWhole_whole _) scW (Memref.isWhole_whole _) scF (Memref.isWhole_whole _) (iblk m c 0 t) (iblk m c 1 t) (iblk m c 2 t) (iblk m c 3 t) (iblk m c 4 t) (iblk m c 5 t) (iblk m c 6 t) hc0 (carriedX m c) (carriedF m c) Set.univ K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iexact Hk) _)
    isplitl [H0 H1 H2 H3 H4 H5 H6 HS0 HS1 HS2]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iexact HS2
    isplitl [H7]; · iexists _; iexact H7
    unfold openPost
    iintro ⟨⟨H0, H1, H2, H3, H4, H5, H6, HS0, HS1, HS2⟩, H7⟩
    isplitl [HS0 HS1 HS2 Hg]
    · isplitl [HS0 HS1 HS2]
      · isplitl [HS0]; · iexact HS0
        isplitl [HS1]; · iexists _; iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.Kernel.Frame.lean ====
/-
  The frame of the kernel as printed. The idealization rewrote no operation, so the program and its body table are those of
  the idealized kernel, and the frame proved of that one at every interpretation of the floats is this one's too.
-/
module

public import proofs.«01_k».proof.Proof.Gen.Kernel.Frame
public import proofs.«01_k».proof.Proof.KernelIdeal.Frame

@[expose] public section

set_option maxRecDepth 16384

noncomputable section

namespace Cert.Kernel.Gen

open Idealize.ShloMosaic Idealize.ShloMosaic.TcCoe Idealize.ShloMosaic.Tactic
open Idealize.SL.Sem

variable {F : FTy → Type} [FloatOps F]

/-- The kernel's function is the idealized kernel's. -/
theorem body_eq : cc0_int4_linear (F := F) = Cert.KernelIdeal.cc0_int4_linear (F := F) := rfl

/-- So is the table of kernel functions, -/
theorem defs₀_eq : defs₀ (F := F) = Cert.KernelIdeal.defs₀ (F := F) := by
  unfold defs₀ Cert.KernelIdeal.defs₀
  refine congrArg Defs.onTc ?_
  funext l p
  match l, p with
  | 0, (t, s) => exact rfl

/-- the table with the regions, -/
theorem defs_eq : defs (F := F) = Cert.KernelIdeal.defs (F := F) := by
  unfold defs Cert.KernelIdeal.defs
  rw [defs₀_eq]; rfl

/-- and the whole program. -/
theorem main_eq : main (F := F) = Cert.KernelIdeal.main (F := F) := rfl

/-- The kernel runs, leaves its arguments unchanged and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_eq, main_eq]
  exact Cert.KernelIdeal.Gen.frame (F := F) m ρ

end Cert.Kernel.Gen

end
-- ==== Proof.Requant.Words.lean ====
/-
  The requantization of one accumulator, on 32-bit words: the doubling high product rounded to nearest, the rounding shift
  and the clip to i8. It is what the reference computes, and the kernel on its slow path; in the range the kernel's fast
  path admits it is read here as arithmetic on integers.
-/
module

public import Idealize.ShloMosaic.PureOps
public import Mathlib.Tactic.IntervalCases
public import Mathlib.Tactic.Ring
public import Mathlib.Tactic.Linarith

@[expose] public section

noncomputable section

namespace Cert.Requant

open Idealize.ShloMosaic

/-- Bits 31 to 62 of the product of two words plus a third one, the product made of four products of halves. -/
def highPart (u m c : BitVec 32) : BitVec 32 :=
  let uh := IntOp.shrui .vector u 16#32
  let ul := IntOp.andi u 65535#32
  let mh := IntOp.shrui .vector m 16#32
  let ml := IntOp.andi m 65535#32
  let low := IntOp.muli ul ml
  let mid := IntOp.addi (IntOp.muli uh ml) (IntOp.muli ul mh)
  let low1 := IntOp.addi low (IntOp.shli .vector mid 16#32)
  let high1 := IntOp.addi (IntOp.addi (IntOp.muli uh mh) (IntOp.shrui .vector mid 16#32)) ((IntOp.cmpi .ult low1 low).setWidth 32)
  let low2 := IntOp.addi low1 c
  let high2 := IntOp.addi high1 ((IntOp.cmpi .ult low2 low1).setWidth 32)
  IntOp.ori (IntOp.shli .vector high2 1#32) (IntOp.shrui .vector low2 31#32)

/-- `round(a · m / 2^31)`: on the size of `a`, the sign put back. -/
def doubledHigh (a m : BitVec 32) : BitVec 32 :=
  let neg := IntOp.cmpi .slt a 0#32
  let q := highPart (IntOp.absi a) m (IntOp.subi 1073741824#32 (neg.setWidth 32))
  Scalar.select neg (IntOp.subi 0#32 q) q

/-- `h / 2^s`, rounded to nearest. -/
def roundShift (h s : BitVec 32) : BitVec 32 :=
  let mask := IntOp.subi (IntOp.shli .vector 1#32 s) 1#32
  let rem := IntOp.andi h mask
  let thr := IntOp.addi (IntOp.shrsi .vector mask 1#32) ((IntOp.cmpi .slt h 0#32).setWidth 32)
  IntOp.addi (IntOp.shrsi .vector h s) ((IntOp.cmpi .sgt rem thr).setWidth 32)

/-- The output for accumulator `a`, multiplier `m`, shift `s` and output zero point `z`. -/
def requant (a m s z : BitVec 32) : BitVec 8 :=
  (IntOp.minsi 127#32 (IntOp.maxsi 4294967168#32 (IntOp.addi (roundShift (doubledHigh a m) s) z))).setWidth 8

/-- A comparison's bit as a word. -/
theorem toNat_setWidth_ofBool (b : Bool) : ((BitVec.ofBool b).setWidth 32).toNat = if b then 1 else 0 := by
  cases b <;> rfl

/-- `highPart` is the quotient by `2^31` of the exact product plus `c`. -/
theorem toNat_highPart (u m c : BitVec 32) (hu : u.toNat ≤ 2 ^ 24) (hm : m.toNat < 2 ^ 31) (hc : c.toNat ≤ 2 ^ 30) :
    (highPart u m c).toNat = (u.toNat * m.toNat + c.toNat) / 2 ^ 31 := by
  have hlow : ∀ x : BitVec 32, (x &&& 65535#32).toNat = x.toNat % 65536 := fun x => by
    rw [BitVec.toNat_and]; exact Nat.and_two_pow_sub_one_eq_mod x.toNat 16
  have hor : ∀ x y : BitVec 32, ((x <<< 1) ||| (y >>> 31)).toNat = (x.toNat * 2) % 2 ^ 32 + y.toNat / 2 ^ 31 := fun x y => by
    have hy := y.isLt
    have hx := x.isLt
    have e : (x <<< 1 : BitVec 32).toNat = 2 ^ 1 * (x.toNat % 2 ^ 31) := by
      rw [BitVec.toNat_shiftLeft, Nat.shiftLeft_eq]; omega
    have e' : (y >>> 31 : BitVec 32).toNat = y.toNat / 2 ^ 31 := by
      rw [BitVec.toNat_ushiftRight, Nat.shiftRight_eq_div_pow]
    rw [BitVec.toNat_or, e, e', ← Nat.two_pow_add_eq_or_of_lt (by omega : y.toNat / 2 ^ 31 < 2 ^ 1)]
    omega
  obtain ⟨uh, ul, hu', hul, huh⟩ : ∃ uh ul, u.toNat = uh * 65536 + ul ∧ ul < 65536 ∧ uh ≤ 256 :=
    ⟨u.toNat / 65536, u.toNat % 65536, by omega, by omega, by omega⟩
  obtain ⟨mh, ml, hm', hml, hmh⟩ : ∃ mh ml, m.toNat = mh * 65536 + ml ∧ ml < 65536 ∧ mh < 32768 :=
    ⟨m.toNat / 65536, m.toNat % 65536, by omega, by omega, by omega⟩
  have eu : u.toNat / 65536 = uh := by omega
  have eu' : u.toNat % 65536 = ul := by omega
  have em : m.toNat / 65536 = mh := by omega
  have em' : m.toNat % 65536 = ml := by omega
  have hp : u.toNat * m.toNat = uh * mh * 2 ^ 32 + (uh * ml + ul * mh) * 65536 + ul * ml := by rw [hu', hm']; ring
  have h1 : uh * ml ≤ 256 * 65535 := Nat.mul_le_mul huh (by omega)
  have h2 : ul * mh ≤ 65535 * 32767 := Nat.mul_le_mul (by omega) (by omega)
  have h3 : ul * ml ≤ 65535 * 65535 := Nat.mul_le_mul (by omega) (by omega)
  have h4 : uh * mh ≤ 256 * 32767 := Nat.mul_le_mul huh (by omega)
  have ush : ∀ x : BitVec 32, (x >>> 16#32).toNat = x.toNat / 65536 := fun x => by
    rw [BitVec.ushiftRight_eq', BitVec.toNat_ushiftRight, Nat.shiftRight_eq_div_pow]; rfl
  have shl : ∀ x : BitVec 32, (x <<< 16#32).toNat = x.toNat * 65536 % 2 ^ 32 := fun x => by
    rw [BitVec.shiftLeft_eq', BitVec.toNat_shiftLeft, Nat.shiftLeft_eq]; rfl
  have ult : ∀ x y : BitVec 32, ((BitVec.ofBool (x.ult y)).setWidth 32).toNat = if x.toNat < y.toNat then 1 else 0 := fun x y => by
    rw [toNat_setWidth_ofBool, BitVec.ult]; simp
  have elow : ((u &&& 65535#32) * (m &&& 65535#32)).toNat = ul * ml := by
    rw [BitVec.toNat_mul, hlow, hlow, eu', em', Nat.mod_eq_of_lt (by omega)]
  have emid : (u >>> 16#32 * (m &&& 65535#32) + (u &&& 65535#32) * m >>> 16#32).toNat = uh * ml + ul * mh := by
    rw [BitVec.toNat_add, BitVec.toNat_mul, BitVec.toNat_mul, ush, ush, hlow, hlow, eu, eu', em, em']; omega
  have ehh : (u >>> 16#32 * m >>> 16#32).toNat = uh * mh := by
    rw [BitVec.toNat_mul, ush, ush, eu, em, Nat.mod_eq_of_lt (by omega)]
  rw [hp]
  simp only [highPart, IntOp.shrui, IntOp.shli, IntOp.andi, IntOp.addi, IntOp.muli, IntOp.ori, IntOp.cmpi, BitVec.toNat_ofNat]
  simp only [show (16#32).toNat = 16 from rfl, show (1#32).toNat = 1 from rfl, show (31#32).toNat = 31 from rfl,
    show (16 : Nat) < 32 from by decide, show (1 : Nat) < 32 from by decide, show (31 : Nat) < 32 from by decide, if_true]
  generalize (u &&& 65535#32) * (m &&& 65535#32) = low at *
  generalize u >>> 16#32 * (m &&& 65535#32) + (u &&& 65535#32) * m >>> 16#32 = mid at *
  generalize u >>> 16#32 * m >>> 16#32 = hh at *
  generalize uh * ml = X at *
  generalize ul * mh = Y at *
  generalize ul * ml = Z at *
  generalize uh * mh = W at *
  rw [show ∀ x y : BitVec 32, (x <<< 1#32 ||| y >>> 31#32).toNat = x.toNat * 2 % 2 ^ 32 + y.toNat / 2 ^ 31 from hor]
  simp only [BitVec.toNat_add, ult, ush, shl, elow, emid, ehh]
  clear hor hlow ush shl ult elow emid ehh hp hu' hm' eu eu' em em' hu hm
  split_ifs <;> omega

/-- The size of a word that is not the least one. -/
theorem toNat_absi (a : BitVec 32) : (IntOp.absi a).toNat = a.toInt.natAbs := by
  have h := a.isLt
  rw [IntOp.absi, BitVec.msb_eq_toInt, BitVec.toInt_eq_toNat_cond]
  split_ifs with h1 h2 h2
  all_goals simp only [decide_eq_true_eq, BitVec.toNat_neg] at *
  all_goals omega

/-- In the range of an exact f32 accumulator `doubledHigh` is the rounded quotient. -/
theorem toInt_doubledHigh (a m : BitVec 32) (ha : a.toInt.natAbs ≤ 2 ^ 24) (hm : m.toNat < 2 ^ 31) :
    (doubledHigh a m).toInt = (a.toInt * m.toNat + 2 ^ 30) / 2 ^ 31 := by
  have hb : a.toInt.natAbs * m.toNat ≤ 2 ^ 24 * (2 ^ 31 - 1) := Nat.mul_le_mul ha (by omega)
  have e : ∀ c : BitVec 32, c.toNat ≤ 2 ^ 30 → (highPart (IntOp.absi a) m c).toNat = (a.toInt.natAbs * m.toNat + c.toNat) / 2 ^ 31 :=
    fun c hc => by rw [toNat_highPart _ _ _ (by rw [toNat_absi]; exact ha) hm hc, toNat_absi]
  rw [doubledHigh]
  simp only [IntOp.cmpi, BitVec.slt, BitVec.toInt_zero]
  by_cases hn : a.toInt < 0
  · have hp : a.toInt * (m.toNat : Int) = -((a.toInt.natAbs * m.toNat : Nat) : Int) := by
      rw [Nat.cast_mul, Int.ofNat_natAbs_of_nonpos hn.le]; ring
    rw [decide_eq_true hn, hp]
    have := e _ (show (IntOp.subi 1073741824#32 ((BitVec.ofBool true).setWidth 32)).toNat ≤ 2 ^ 30 by decide)
    rw [show (IntOp.subi 1073741824#32 ((BitVec.ofBool true).setWidth 32)).toNat = 2 ^ 30 - 1 by decide] at this
    rw [show Scalar.select (BitVec.ofBool true) = fun (x : BitVec 32) _ => x from rfl]
    simp only [IntOp.subi] at *
    generalize highPart _ _ _ = q at *
    rw [BitVec.toInt_eq_toNat_cond, BitVec.toNat_sub]
    simp only [show (0#32).toNat = 0 from rfl]
    generalize a.toInt.natAbs * m.toNat = P at *
    split_ifs <;> omega
  · have hp : a.toInt * (m.toNat : Int) = ((a.toInt.natAbs * m.toNat : Nat) : Int) := by
      rw [Nat.cast_mul, Int.natAbs_of_nonneg (by omega)]
    rw [decide_eq_false hn, hp]
    have := e _ (show (IntOp.subi 1073741824#32 ((BitVec.ofBool false).setWidth 32)).toNat ≤ 2 ^ 30 by decide)
    rw [show (IntOp.subi 1073741824#32 ((BitVec.ofBool false).setWidth 32)).toNat = 2 ^ 30 by decide] at this
    rw [show Scalar.select (BitVec.ofBool false) = fun (_ : BitVec 32) y => y from rfl]
    simp only [IntOp.subi] at *
    generalize highPart _ _ _ = q at *
    rw [BitVec.toInt_eq_toNat_cond]
    generalize a.toInt.natAbs * m.toNat = P at *
    split_ifs <;> omega

end Cert.Requant

end
-- ==== Proof.Requant.Exact.lean ====
/-
  Integers among the ideal values: conversions and roundings of an integer, and the constants the kernel prints.
-/
module

public import proofs.«01_k».proof.Proof.Requant.Words
public import Idealize.ShloMosaic.PureOps.Ideal
public import Idealize.ShloMosaic.PureOps.Ideal.Laws
public import Mathlib.Tactic.NormNum
public import Mathlib.Tactic.NormNum.BigOperators

@[expose] public section

noncomputable section

namespace Cert.Requant

open Idealize.ShloMosaic

/-- Converting an integer in the range of an i32 gives that integer's word. -/
theorem fptosi_int (n : Int) (h : -2 ^ 31 ≤ n) (h' : n < 2 ^ 31) : Ideal.fptosi 32 (((n : ℝ)) : EReal) = BitVec.ofInt 32 n := by
  rw [Ideal.fptosi, Ideal.toIntClamped_coe, Int.floor_intCast, Int.ceil_intCast, ite_self]
  congr 1
  norm_num only
  omega

/-- Rounding an integer changes nothing. -/
theorem roundHalfEven_int (n : Int) : Ideal.roundHalfEven (n : ℝ) = n := by
  simp [Ideal.roundHalfEven]

theorem ofBits_half : Ideal.ofBits .f32 1056964608#32 = ((1 / 2 : ℝ) : EReal) := by
  simp [Ideal.ofBits, Ideal.ieee, -EReal.coe_mul, -EReal.coe_pow]; norm_num

theorem ofBits_neg_half : Ideal.ofBits .f32 3204448256#32 = ((-1 / 2 : ℝ) : EReal) := by
  simp [Ideal.ofBits, Ideal.ieee, -EReal.coe_mul, -EReal.coe_neg]; norm_num

theorem ofBits_neg_one : Ideal.ofBits .f32 3212836864#32 = ((-1 : ℝ) : EReal) := by
  simp [Ideal.ofBits, Ideal.ieee, -EReal.coe_mul, -EReal.coe_neg]; norm_num

theorem ofBits_two : Ideal.ofBits .f32 1073741824#32 = ((2 : ℝ) : EReal) := by
  simp [Ideal.ofBits, Ideal.ieee, -EReal.coe_mul, -EReal.coe_pow]; norm_num

theorem ofBits_two_pow_32 : Ideal.ofBits .f32 1333788672#32 = ((2 ^ 32 : ℝ) : EReal) := by
  simp [Ideal.ofBits, Ideal.ieee, -EReal.coe_mul, -EReal.coe_pow]; norm_num

theorem ofBits_two_pow_neg_32 : Ideal.ofBits .f32 796917760#32 = ((1 / 2 ^ 32 : ℝ) : EReal) := by
  simp [Ideal.ofBits, Ideal.ieee, -EReal.coe_mul, -EReal.coe_pow]; norm_num

theorem ofBits_centre : Ideal.ofBits .f32 1530920960#32 = ((2 ^ 32 * 12582912 : ℝ) : EReal) := by
  simp [Ideal.ofBits, Ideal.ieee, -EReal.coe_mul, -EReal.coe_pow]; norm_num

theorem ofBits_lower : Ideal.ofBits .f32 1392508928#32 = ((2 ^ 32 * 128 : ℝ) : EReal) := by
  simp [Ideal.ofBits, Ideal.ieee, -EReal.coe_mul, -EReal.coe_pow]; norm_num

theorem ofBits_upper : Ideal.ofBits .f32 1392377856#32 = ((2 ^ 32 * 127 : ℝ) : EReal) := by
  simp [Ideal.ofBits, Ideal.ieee, -EReal.coe_mul, -EReal.coe_pow]; norm_num

end Cert.Requant

end
-- ==== Proof.Requant.Shift.lean ====
/-
  The rounding shift and the clip, read as arithmetic on integers: the reference's, and the kernel's fast path, which adds
  half a unit and the zero point in one sum, clamps it and lets the shifted word's low byte be the output.
-/
module

public import proofs.«01_k».proof.Proof.Requant.Words

@[expose] public section

noncomputable section

namespace Cert.Requant

open Idealize.ShloMosaic

/-- The clamped sum of the kernel's fast path, in units of the rounded product `h`. -/
def fastSum (h : Int) (s : Nat) (z : Int) : Int :=
  min (max (12582912 + h + 2 ^ (s - 1) + z * 2 ^ s - (if h < 0 then 1 else 0)) (12582912 - 128 * 2 ^ s)) (12582912 + 127 * 2 ^ s)

/-- An arithmetic right shift by less than 32 is the floor of the quotient. -/
theorem toInt_shrsi (x s : BitVec 32) (hs : s.toNat < 32) : (IntOp.shrsi .vector x s).toInt = x.toInt / 2 ^ s.toNat := by
  rw [IntOp.shrsi, if_pos hs, BitVec.sshiftRight', BitVec.toInt_sshiftRight, Int.shiftRight_eq_div_pow]; rfl

/-- The rounding shift, on integers. -/
theorem toInt_roundShift (h s : BitVec 32) (h1 : 1 ≤ s.toNat) (h2 : s.toNat ≤ 13) :
    (roundShift h s).toInt = h.toInt / 2 ^ s.toNat
      + if 2 ^ (s.toNat - 1) - 1 + (if h.toInt < 0 then 1 else 0) < h.toInt % 2 ^ s.toNat then 1 else 0 := by
  obtain ⟨k, rfl, hk⟩ : ∃ k, s = BitVec.ofNat 32 k ∧ s.toNat = k := ⟨s.toNat, by simp, rfl⟩
  rw [hk] at h1 h2 ⊢
  have hq := toInt_shrsi h (BitVec.ofNat 32 k) (by omega)
  rw [hk] at hq
  have hmask : IntOp.subi (IntOp.shli .vector 1#32 (BitVec.ofNat 32 k)) 1#32 = BitVec.ofNat 32 (2 ^ k - 1) := by
    interval_cases k <;> rfl
  have hhalf : IntOp.shrsi .vector (BitVec.ofNat 32 (2 ^ k - 1)) 1#32 = BitVec.ofNat 32 (2 ^ (k - 1) - 1) := by
    interval_cases k <;> rfl
  have hrange := h.isLt
  have hrem : (IntOp.andi h (BitVec.ofNat 32 (2 ^ k - 1))).toInt = h.toInt % 2 ^ k := by
    have e : (IntOp.andi h (BitVec.ofNat 32 (2 ^ k - 1))).toNat = h.toNat % 2 ^ k := by
      rw [IntOp.andi, BitVec.toNat_and, ← Nat.and_two_pow_sub_one_eq_mod]
      congr 1
      interval_cases k <;> rfl
    rw [BitVec.toInt_eq_toNat_cond, BitVec.toInt_eq_toNat_cond, e]
    interval_cases k <;> split_ifs <;> omega
  have hthr : (IntOp.addi (BitVec.ofNat 32 (2 ^ (k - 1) - 1)) ((IntOp.cmpi .slt h 0#32).setWidth 32)).toInt
      = 2 ^ (k - 1) - 1 + if h.toInt < 0 then 1 else 0 := by
    rw [IntOp.cmpi, BitVec.slt, BitVec.toInt_zero]
    by_cases hn : h.toInt < 0
    · rw [decide_eq_true hn, if_pos hn]; interval_cases k <;> rfl
    · rw [decide_eq_false hn, if_neg hn]; interval_cases k <;> rfl
  rw [roundShift, hmask, hhalf]
  generalize IntOp.andi h (BitVec.ofNat 32 (2 ^ k - 1)) = rem at *
  generalize IntOp.addi (BitVec.ofNat 32 (2 ^ (k - 1) - 1)) ((IntOp.cmpi .slt h 0#32).setWidth 32) = thr at *
  have hup : ((IntOp.cmpi .sgt rem thr).setWidth 32).toInt = if thr.toInt < rem.toInt then 1 else 0 := by
    rw [IntOp.cmpi, BitVec.slt]
    split_ifs with hb
    · rw [decide_eq_true hb]; rfl
    · rw [decide_eq_false hb]; rfl
  rw [hrem, hthr] at hup
  simp only [IntOp.addi, BitVec.toInt_add, hq, hup]
  have hr : -2 ^ 31 ≤ h.toInt ∧ h.toInt < 2 ^ 31 := ⟨BitVec.le_toInt h, BitVec.toInt_lt⟩
  apply Int.bmod_eq_of_le <;> interval_cases k <;> split_ifs <;> omega

/-- The clip to the range of an i8, on integers. -/
theorem toInt_clip (x : BitVec 32) : (IntOp.minsi 127#32 (IntOp.maxsi 4294967168#32 x)).toInt = min 127 (max (-128) x.toInt) := by
  simp only [IntOp.minsi, IntOp.maxsi, BitVec.slt, decide_eq_true_eq, show (127#32).toInt = 127 from rfl,
    show (4294967168#32).toInt = -128 from rfl]
  split_ifs <;> simp_all <;> omega

/-- The low byte of the shifted sum of the fast path is the reference's output. -/
theorem fast_word (h s z : BitVec 32) (h1 : 1 ≤ s.toNat) (h2 : s.toNat ≤ 13) (hh : h.toInt.natAbs ≤ 2 ^ 24)
    (hz : -128 ≤ z.toInt) (hz' : z.toInt ≤ 128) :
    (IntOp.shrsi .vector (BitVec.ofInt 32 (fastSum h.toInt s.toNat z.toInt) + 1518338048#32) s).setWidth 8
      = (IntOp.minsi 127#32 (IntOp.maxsi 4294967168#32 (IntOp.addi (roundShift h s) z))).setWidth 8 := by
  have hr := toInt_roundShift h s h1 h2
  have hsum : (IntOp.addi (roundShift h s) z).toInt = h.toInt / 2 ^ s.toNat
      + (if 2 ^ (s.toNat - 1) - 1 + (if h.toInt < 0 then 1 else 0) < h.toInt % 2 ^ s.toNat then 1 else 0) + z.toInt := by
    rw [IntOp.addi, BitVec.toInt_add, hr]
    generalize s.toNat = k at *
    apply Int.bmod_eq_of_le <;> interval_cases k <;> split_ifs <;> omega
  have hb : ∀ x y : BitVec 32, x.toInt % 256 = y.toInt % 256 → x.setWidth 8 = y.setWidth 8 := fun x y e => by
    apply BitVec.eq_of_toNat_eq
    rw [BitVec.toNat_setWidth, BitVec.toNat_setWidth]
    simp only [BitVec.toInt_eq_toNat_cond] at e
    split_ifs at e <;> omega
  apply hb
  rw [toInt_clip, hsum, toInt_shrsi _ _ (by omega), BitVec.toInt_add, BitVec.toInt_ofInt, show (1518338048#32).toInt = 1518338048 from rfl,
    fastSum]
  have hkey : h.toInt / 2 ^ s.toNat
      + (if 2 ^ (s.toNat - 1) - 1 + (if h.toInt < 0 then 1 else 0) < h.toInt % 2 ^ s.toNat then 1 else 0)
      = (h.toInt + 2 ^ (s.toNat - 1) - (if h.toInt < 0 then 1 else 0)) / 2 ^ s.toNat := by
    generalize s.toNat = k at *
    interval_cases k <;> split_ifs <;> omega
  rw [hkey, show ∀ a b c d : Int, 12582912 + a + b + c - d = 12582912 + (a + b - d) + c from fun a b c d => by ring]
  clear hsum hb hr hkey
  have hy : -2 ^ 25 ≤ h.toInt + 2 ^ (s.toNat - 1) - (if h.toInt < 0 then 1 else 0)
      ∧ h.toInt + 2 ^ (s.toNat - 1) - (if h.toInt < 0 then 1 else 0) ≤ 2 ^ 25 := by
    generalize s.toNat = k at *
    interval_cases k <;> split_ifs <;> omega
  generalize h.toInt + 2 ^ (s.toNat - 1) - (if h.toInt < 0 then 1 else 0) = y at *
  generalize z.toInt = Z at *
  generalize s.toNat = k at *
  clear hh
  obtain ⟨b, hb⟩ : ∃ b, b = min (max (12582912 + y + Z * 2 ^ k) (12582912 - 128 * 2 ^ k)) (12582912 + 127 * 2 ^ k) := ⟨_, rfl⟩
  rw [← hb]
  have hbr : 0 ≤ b ∧ b < 2 ^ 24 := by interval_cases k <;> omega
  rw [Int.bmod_eq_of_le (n := b) (by omega) (by omega), Int.bmod_eq_of_le (by omega) (by omega)]
  interval_cases k <;> omega

end Cert.Requant

end
-- ==== Proof.Requant.Fast.lean ====
/-
  The kernel's fast path for one accumulator, in f32: every value in it is an exact integer, or a power of two times one, so
  over the reals it gives the word the reference gives.
-/
module

public import proofs.«01_k».proof.Proof.Requant.Exact
public import proofs.«01_k».proof.Proof.Requant.Shift

@[expose] public section

noncomputable section

namespace Cert.Requant

open Idealize.ShloMosaic

/-- The output of the fast path for the product `p`, bias `b`, multiplier `m`, shift `s` and output zero point `z`. -/
def fast (p : EReal) (b m s z : BitVec 32) : BitVec 8 :=
  let a : EReal := p + ((b.toInt : ℝ) : EReal)
  let low := IntOp.muli (Ideal.fptosi 32 (Ideal.liftRound Ideal.roundHalfEven a)) (IntOp.muli m 2#32)
  let unit : EReal := (((IntOp.shli .vector 1#32 s).toInt : ℝ) : EReal)
  let up : EReal := Ideal.ofBits .f32 1530920960#32
    + Ideal.ofBits .f32 1333788672#32 * (unit * (Ideal.ofBits .f32 1056964608#32 + ((z.toInt : ℝ) : EReal)))
  let below : EReal := Scalar.select (IntOp.cmpi .sgt m 1073741824#32) (Ideal.ofBits .f32 3204448256#32) (Ideal.ofBits .f32 3212836864#32)
  let q : EReal := a * (((m.toInt : ℝ) : EReal) * Ideal.ofBits .f32 1073741824#32) - ((low.toInt : ℝ) : EReal)
    + if a < below then up - Ideal.ofBits .f32 1333788672#32 else up
  let q : EReal := min (max q (Ideal.ofBits .f32 1530920960#32 - Ideal.ofBits .f32 1392508928#32 * unit))
    (Ideal.ofBits .f32 1530920960#32 + Ideal.ofBits .f32 1392377856#32 * unit)
  (IntOp.shrsi .vector (IntOp.addi (Ideal.fptosi 32 (q * Ideal.ofBits .f32 796917760#32)) 1518338048#32) s).setWidth 8

/-- The low word of the doubled product is what is left of it above the multiple `h` of `2^32`. -/
theorem toInt_low (A : Int) (m : BitVec 32) :
    (IntOp.muli (BitVec.ofInt 32 A) (IntOp.muli m 2#32)).toInt = A * (m.toInt * 2) - 2 ^ 32 * ((A * m.toInt + 2 ^ 30) / 2 ^ 31) := by
  have e : IntOp.muli (BitVec.ofInt 32 A) (IntOp.muli m 2#32) = BitVec.ofInt 32 (A * m.toInt * 2) := by
    conv_lhs => rw [← BitVec.ofInt_toInt (x := m)]
    rw [BitVec.ofInt_mul, BitVec.ofInt_mul, BitVec.mul_assoc]; rfl
  rw [e, BitVec.toInt_ofInt, ← mul_assoc, Int.bmod]
  generalize A * m.toInt = P
  split_ifs <;> omega

/-- The sign test of the fast path is the sign of the rounded product. -/
theorem sign_test (A : Int) (m : BitVec 32) (hm : 2 ^ 30 ≤ m.toInt) :
    ((A : ℝ) : EReal) < (Scalar.select (IntOp.cmpi .sgt m 1073741824#32) (Ideal.ofBits .f32 3204448256#32) (Ideal.ofBits .f32 3212836864#32) : EReal)
      ↔ (A * m.toInt + 2 ^ 30) / 2 ^ 31 < 0 := by
  rw [ofBits_neg_half, ofBits_neg_one, IntOp.cmpi, BitVec.slt, show (1073741824#32).toInt = 2 ^ 30 from rfl]
  by_cases h : 2 ^ 30 < m.toInt
  · rw [decide_eq_true h, show ∀ x y : EReal, Scalar.select (BitVec.ofBool true) x y = x from fun _ _ => rfl]
    rw [EReal.coe_lt_coe_iff]
    constructor
    · intro hA
      have : A < 0 := by
        have : (A : ℝ) < 0 := by linarith
        exact_mod_cast this
      have : A * m.toInt ≤ -1 * m.toInt := mul_le_mul_of_nonneg_right (by omega) (by omega)
      omega
    · intro hA
      have : A < 0 := by
        by_contra hc
        have : 0 ≤ A * m.toInt := mul_nonneg (by omega) (by omega)
        omega
      have : (A : ℝ) ≤ -1 := by exact_mod_cast (by omega : A ≤ -1)
      linarith
  · have hm' : m.toInt = 2 ^ 30 := by omega
    rw [decide_eq_false h, show ∀ x y : EReal, Scalar.select (BitVec.ofBool false) x y = y from fun _ _ => rfl, hm']
    rw [EReal.coe_lt_coe_iff]
    constructor
    · intro hA
      have : A < -1 := by exact_mod_cast hA
      omega
    · intro hA
      have : A < -1 := by omega
      exact_mod_cast this

/-- The fast path's output is the reference's, on the accumulators, multipliers, shifts and zero points it is taken for. -/
theorem fast_eq (P : Int) (b m s z : BitVec 32) (hP : (P + b.toInt).natAbs ≤ 2 ^ 24) (hm : 2 ^ 30 ≤ m.toInt)
    (h1 : 1 ≤ s.toNat) (h2 : s.toNat ≤ 13) (hz : -128 ≤ z.toInt) (hz' : z.toInt ≤ 128) :
    fast ((P : ℝ) : EReal) b m s z = requant (BitVec.ofInt 32 P + b) m s z := by
  have hml : m.toNat < 2 ^ 31 ∧ (m.toNat : Int) = m.toInt := by
    have := m.isLt
    rw [BitVec.toInt_eq_toNat_cond] at hm ⊢
    split_ifs at hm ⊢ <;> omega
  obtain ⟨A, hA⟩ : ∃ A, A = P + b.toInt := ⟨_, rfl⟩
  have hacc : (BitVec.ofInt 32 P + b).toInt = A := by
    rw [BitVec.toInt_add, BitVec.toInt_ofInt, Int.bmod_add_bmod, hA]
    exact Int.bmod_eq_of_le (by omega) (by omega)
  have hh := toInt_doubledHigh (BitVec.ofInt 32 P + b) m (by rw [hacc, hA]; exact hP) hml.1
  rw [hacc, hml.2] at hh
  have hunit : (IntOp.shli .vector 1#32 s).toInt = 2 ^ s.toNat := by
    obtain ⟨k, rfl, hk⟩ : ∃ k, s = BitVec.ofNat 32 k ∧ s.toNat = k := ⟨s.toNat, by simp, rfl⟩
    rw [hk] at h1 h2 ⊢
    interval_cases k <;> rfl
  have hbound : (doubledHigh (BitVec.ofInt 32 P + b) m).toInt.natAbs ≤ 2 ^ 24 := by
    have h3 : A.natAbs * m.toNat ≤ 2 ^ 24 * (2 ^ 31 - 1) := Nat.mul_le_mul (hA ▸ hP) (by omega)
    have h4 : (A * m.toInt).natAbs = A.natAbs * m.toNat := by rw [Int.natAbs_mul]; congr 1; omega
    rw [hh]
    omega
  rw [requant, ← fast_word _ _ _ h1 h2 hbound hz hz', hh]
  generalize hH : (A * m.toInt + 2 ^ 30) / 2 ^ 31 = H at *
  have ea : ((P : ℝ) : EReal) + ((b.toInt : ℝ) : EReal) = ((A : ℝ) : EReal) := by
    rw [← EReal.coe_add, hA]; push_cast; rfl
  have hr : ∀ q : EReal, q = (((fastSum H s.toNat z.toInt : Int) : ℝ) : EReal) →
      Ideal.fptosi 32 q = BitVec.ofInt 32 (fastSum H s.toNat z.toInt) := by
    rintro _ rfl
    apply fptosi_int
    all_goals
      rw [fastSum]
      generalize s.toNat = k at *
      interval_cases k <;> omega
  simp only [fast, ea, sign_test A m hm, Ideal.liftRound_coe, roundHalfEven_int, fptosi_int A (by omega) (by omega), toInt_low, hH, hunit]
  rw [hr]
  · rfl
  simp only [ofBits_half, ofBits_two, ofBits_two_pow_32, ofBits_two_pow_neg_32, ofBits_centre, ofBits_lower, ofBits_upper,
    ← EReal.coe_add, ← EReal.coe_mul, ← EReal.coe_sub]
  have hsel : ∀ x y : ℝ, (if H < 0 then (x : EReal) else (y : EReal)) = ((if H < 0 then x else y : ℝ) : EReal) :=
    fun x y => (apply_ite _ _ _ _).symm
  rw [hsel, ← EReal.coe_add, ← EReal.coe_strictMono.monotone.map_max, ← EReal.coe_strictMono.monotone.map_min, ← EReal.coe_mul]
  congr 1
  obtain ⟨k, hk⟩ : ∃ k, s.toNat = k + 1 := ⟨s.toNat - 1, by omega⟩
  rw [fastSum, hk, Nat.add_sub_cancel]
  have e1 : (A : ℝ) * (m.toInt * 2) - ((A * (m.toInt * 2) - 2 ^ 32 * H : Int) : ℝ)
      + (if H < 0 then 2 ^ 32 * 12582912 + 2 ^ 32 * (((2 ^ (k + 1) : Int) : ℝ) * (1 / 2 + z.toInt)) - 2 ^ 32
          else 2 ^ 32 * 12582912 + 2 ^ 32 * (((2 ^ (k + 1) : Int) : ℝ) * (1 / 2 + z.toInt)))
      = 2 ^ 32 * ((12582912 + H + 2 ^ k + z.toInt * 2 ^ (k + 1) - (if H < 0 then 1 else 0) : Int) : ℝ) := by
    split_ifs <;> push_cast <;> ring
  have e2 : (2 ^ 32 * 12582912 : ℝ) - 2 ^ 32 * 128 * ((2 ^ (k + 1) : Int) : ℝ) = 2 ^ 32 * ((12582912 - 128 * 2 ^ (k + 1) : Int) : ℝ) := by
    push_cast; ring
  have e3 : (2 ^ 32 * 12582912 : ℝ) + 2 ^ 32 * 127 * ((2 ^ (k + 1) : Int) : ℝ) = 2 ^ 32 * ((12582912 + 127 * 2 ^ (k + 1) : Int) : ℝ) := by
    push_cast; ring
  rw [e1, e2, e3, ← mul_max_of_nonneg _ _ (by positivity), ← mul_min_of_nonneg _ _ (by positivity), ← Int.cast_max, ← Int.cast_min]
  ring

end Cert.Requant

end
-- ==== Proof.Requant.Sums.lean ====
/-
  The integer sums behind an accumulator: the 4-bit weights, exact products and sums among the ideal values, and the
  accumulator's word.
-/
module

public import proofs.«01_k».proof.Proof.Requant.Exact
public import Mathlib.Algebra.BigOperators.Fin
public import Mathlib.Data.BitVec

@[expose] public section

noncomputable section

namespace Cert.Requant

open Idealize.ShloMosaic

/-- Half `p` of a byte (0: the low one), as a signed 4-bit number. -/
def nib (w : BitVec 8) (p : Nat) : Int := (w.extractLsb' (4 * p) 4).toInt

theorem nib_range (w : BitVec 8) (p : Nat) : -8 ≤ nib w p ∧ nib w p ≤ 7 := by
  have h := BitVec.le_toInt (w.extractLsb' (4 * p) 4)
  have h' := BitVec.toInt_lt (x := w.extractLsb' (4 * p) 4)
  exact ⟨h, by rw [nib]; omega⟩

/-- A property of bytes is checked on the 256 of them. -/
theorem forall_byte {p : BitVec 8 → Prop} (h : ∀ n : Fin 256, p (BitVec.ofFin n)) (w : BitVec 8) : p w := h w.toFin

/-- Shifting a byte to the top of a word and back down leaves the half at the top, its sign spread. -/
theorem shift_nib (w : BitVec 8) (p : Fin 2) :
    (IntOp.shrsi .vector (IntOp.shli .vector (w.setWidth 32) (IntOp.subi 28#32 (IntOp.muli 4#32 (BitVec.ofNat 32 p.val)))) 28#32).toInt
      = nib w p.val := by
  revert p
  exact forall_byte (p := fun w => ∀ p : Fin 2,
    (IntOp.shrsi .vector (IntOp.shli .vector (w.setWidth 32) (IntOp.subi 28#32 (IntOp.muli 4#32 (BitVec.ofNat 32 p.val)))) 28#32).toInt
      = nib w p.val) (by decide +kernel) w

/-- The reference's half of a byte: its four bits, less 16 from 8 on. -/
def half (v : BitVec 32) : BitVec 8 :=
  (Scalar.select (IntOp.cmpi .sge v 8#32) (IntOp.subi v 16#32) v).setWidth 8

theorem half_lo (w : BitVec 8) : (half (IntOp.andi (w.setWidth 32) 15#32)).toInt = nib w 0 :=
  forall_byte (p := fun w => (half (IntOp.andi (w.setWidth 32) 15#32)).toInt = nib w 0) (by decide +kernel) w

theorem half_hi (w : BitVec 8) : (half (IntOp.andi (IntOp.shrsi .vector (w.setWidth 32) 4#32) 15#32)).toInt = nib w 1 :=
  forall_byte (p := fun w => (half (IntOp.andi (IntOp.shrsi .vector (w.setWidth 32) 4#32) 15#32)).toInt = nib w 1) (by decide +kernel) w

/-- A sum of integers is the integer of the sum. -/
theorem sum_int {n : Nat} (f : Fin n → Int) : (∑ k, (((f k : ℝ)) : EReal)) = (((∑ k, f k : Int) : ℝ) : EReal) := by
  rw [Int.cast_sum]
  exact (map_sum (⟨⟨fun r : ℝ => (r : EReal), EReal.coe_zero⟩, EReal.coe_add⟩ : ℝ →+ EReal) (fun k => (f k : ℝ)) _).symm

/-- A sum of integers no greater than `B` in size. -/
theorem natAbs_sum_le {n : Nat} (f : Fin n → Int) (B : Nat) (h : ∀ k, (f k).natAbs ≤ B) : (∑ k, f k).natAbs ≤ n * B := by
  refine (Int.natAbs_sum_le _ _).trans ((Finset.sum_le_card_nsmul _ _ B fun k _ => h k).trans ?_)
  simp

/-- A sum over 1024 rows is the sum over the even ones plus the sum over the odd ones. -/
theorem sum_even_odd (f : Fin 1024 → Int) :
    ∑ k, f k = (∑ i : Fin 512, f ⟨2 * i.val, by omega⟩) + ∑ i : Fin 512, f ⟨2 * i.val + 1, by omega⟩ := by
  rw [← Equiv.sum_comp (finProdFinEquiv (m := 512) (n := 2)) f, Fintype.sum_prod_type, ← Finset.sum_add_distrib]
  refine Finset.sum_congr rfl fun i _ => ?_
  rw [Fin.sum_univ_two]
  refine congrArg₂ (· + ·) (congrArg f (Fin.ext ?_)) (congrArg f (Fin.ext ?_))
  · simp [finProdFinEquiv]
  · simp [finProdFinEquiv]; omega

/-- The accumulator for one row of inputs and one column of weights: the products' sum, less the input zero point times the
weights' sum, plus the bias. -/
def accum (x : Fin 1024 → BitVec 8) (w : Fin 1024 → Int) (z b : BitVec 32) : BitVec 32 :=
  BitVec.ofInt 32 (∑ k, (x k).toInt * w k) - z * BitVec.ofInt 32 (∑ k, w k) + b

/-- The products' sum of an input shifted by `z` is small. -/
theorem natAbs_shifted_sum (x : Fin 1024 → BitVec 8) (w : Fin 1024 → Int) (z : Int) (hz : -128 ≤ z) (hz' : z ≤ 127)
    (hw : ∀ k, -8 ≤ w k ∧ w k ≤ 7) : (∑ k, ((x k).toInt - z) * w k).natAbs ≤ 1024 * (255 * 8) := by
  refine natAbs_sum_le _ _ fun k => ?_
  rw [Int.natAbs_mul]
  have h1 := BitVec.le_toInt (x k)
  have h2 := BitVec.toInt_lt (x := x k)
  have h3 := hw k
  exact Nat.mul_le_mul (by omega) (by omega)

/-- The word of the products' sum of an input shifted by `c`, and the rest of the zero point's term. -/
theorem accum_shifted (x : Fin 1024 → BitVec 8) (w : Fin 1024 → Int) (z b c : BitVec 32) :
    BitVec.ofInt 32 (∑ k, ((x k).toInt - c.toInt) * w k) + (b - (z - c) * BitVec.ofInt 32 (∑ k, w k)) = accum x w z b := by
  have e : ∑ k, ((x k).toInt - c.toInt) * w k = (∑ k, (x k).toInt * w k) - c.toInt * ∑ k, w k := by
    rw [Finset.mul_sum, ← Finset.sum_sub_distrib]
    exact Finset.sum_congr rfl fun k _ => by ring
  rw [e, accum, sub_eq_add_neg (∑ k, (x k).toInt * w k), BitVec.ofInt_add, BitVec.ofInt_neg, BitVec.ofInt_mul, BitVec.ofInt_toInt]
  ring

end Cert.Requant

end
-- ==== Proof.KernelIdeal.Chunk.lean ====
/-
  The kernel's payloads at an index, over the ideal values: an element of a chunk on the fast and on the slow path, the
  unpacked weights and the shifted input.
-/
module

public import proofs.«01_k».proof.Proof.KernelIdeal.Blocks
public import proofs.«01_k».proof.Proof.Requant.Fast
public import proofs.«01_k».proof.Proof.Requant.Sums
public import Idealize.ShloMosaic.Lib.Pointwise

@[expose] public section

set_option maxRecDepth 16384

noncomputable section

namespace Cert.KernelIdeal.Gen

open Idealize.ShloMosaic Cert.Requant

/-- An element of a fast-path chunk: `fast` of the product of its row and column. -/
theorem fastChunk_apply (yzp : BitVec 32) (b m s : S1x512.Idx → BitVec 32) (W : Vec Ideal S1024x512 .bf16) (X : Vec Ideal S256x1024 .bf16)
    (r : Fin 256) (c : Fin 512) :
    fastChunk (F := Ideal) yzp b m s W X (ix2 (n0 := 256) (n1 := 512) r c)
      = fast (∑ k : Fin 1024, X (ix2 (n0 := 256) (n1 := 1024) r k) * W (ix2 (n0 := 1024) (n1 := 512) k c))
          (b (ix2 (n0 := 1) (n1 := 512) 0 c)) (m (ix2 (n0 := 1) (n1 := 512) 0 c)) (s (ix2 (n0 := 1) (n1 := 512) 0 c)) yzp := by
  simp only [fastChunk, k0_pay26, k0_pay25, k0_pay13, k0_pay14, k0_pay15, k0_pay16, k0_pay17, k0_pay18, k0_pay19, k0_pay20, k0_pay21,
    shapeCast_self, pointwise, zero_add]
  rfl

/-- The bit of a condition as a word is the word 1 or 0 it selects. -/
theorem select_one_zero (c : BitVec 1) : Scalar.select c (1#32) (0#32) = c.setWidth 32 := by
  revert c; decide

/-- The rounding term of the slow path: half a unit, less one for a negative accumulator. -/
theorem select_nudge (c : BitVec 1) : Scalar.select c (1073741823#32) (1073741824#32) = IntOp.subi 1073741824#32 (c.setWidth 32) := by
  revert c; decide

/-- An element of a slow-path chunk: the requantized accumulator. -/
theorem slowChunk_apply (xzp yzp : BitVec 32) (b m s : S1x512.Idx → BitVec 32) (W : Vec Ideal S1024x512 .bf16) (X : Vec Ideal S128x1024 .bf16)
    (r : Fin 128) (c : Fin 512) :
    slowChunk (F := Ideal) xzp yzp b m s W X (ix2 (n0 := 128) (n1 := 512) r c)
      = requant (k0_pay33 (F := Ideal) (k0_pay2 xzp (clipZp xzp) b W) X W (ix2 (n0 := 128) (n1 := 512) r c))
          (m (ix2 (n0 := 1) (n1 := 512) 0 c)) (s (ix2 (n0 := 1) (n1 := 512) 0 c)) yzp := by
  generalize ho : k0_pay2 (F := Ideal) xzp (clipZp xzp) b W = o
  simp only [slowChunk, ho, k0_pay46, k0_pay34, k0_pay35, k0_pay36, k0_pay37, k0_pay38, k0_pay39, k0_pay40, k0_pay41, k0_pay42,
    k0_pay43, k0_pay44, k0_pay45, shapeCast_self, pointwise]
  generalize k0_pay33 (F := Ideal) o X W (ix2 (n0 := 128) (n1 := 512) r c) = a
  simp only [select_one_zero, select_nudge]
  rfl

/-- The slow path's accumulator: the product's word, and the column's term added. -/
theorem pay33_apply (o : S1x512.Idx → BitVec 32) (W : Vec Ideal S1024x512 .bf16) (X : Vec Ideal S128x1024 .bf16) (r : Fin 128) (c : Fin 512) :
    k0_pay33 (F := Ideal) o X W (ix2 (n0 := 128) (n1 := 512) r c)
      = Ideal.fptosi 32 (∑ k : Fin 1024, X (ix2 (n0 := 128) (n1 := 1024) r k) * W (ix2 (n0 := 1024) (n1 := 512) k c))
          + o (ix2 (n0 := 1) (n1 := 512) 0 c) := by
  simp only [k0_pay33, pointwise, zero_add]
  rfl

/-- The column's term: the bias less what the part of the zero point outside an i8 takes of the weights' sum. -/
theorem pay2_apply (x z : BitVec 32) (b : S1x512.Idx → BitVec 32) (W : Vec Ideal S1024x512 .bf16) (c : Fin 512) :
    k0_pay2 (F := Ideal) x z b W (ix2 (n0 := 1) (n1 := 512) 0 c)
      = b (ix2 (n0 := 1) (n1 := 512) 0 c) - (x - z) * Ideal.fptosi 32 (∑ k : Fin 1024, W (ix2 (n0 := 1024) (n1 := 512) k c)) := by
  simp only [k0_pay2, pointwise, zero_add, one_mul]
  congr 4
  refine funext fun k => congrArg W (congrArg (ix2 (n0 := 1024) (n1 := 512) k) (Fin.ext ?_))
  simp

/-- An unpacked weight: half `k % 2` of the byte in row `k / 2`. -/
theorem pay47_apply (w : S512x512.Idx → BitVec 8) (k : Fin 1024) (c : Fin 512) :
    k0_pay47 (F := Ideal) w (ix2 (n0 := 1024) (n1 := 512) k c)
      = ((nib (w (ix2 (n0 := 512) (n1 := 512) ⟨k.val / 2, by omega⟩ c)) (k.val % 2) : ℝ) : EReal) := by
  simp only [k0_pay47, pointwise]
  refine Eq.trans ?_ (congrArg (fun n : Int => ((n : ℝ) : EReal)) (shift_nib _ ⟨k.val % 2, Nat.mod_lt _ (by decide)⟩))
  have e : List.foldl (fun n a => n * (![512, 2, 512] : Fin 3 → Nat) a + ((ix3 (n0 := 512) (n1 := 2) (n2 := 512) ⟨k.val / 2, by omega⟩ ⟨k.val % 2, Nat.mod_lt _ (by decide)⟩ c) a).val) 0 [1] = k.val % 2 := by
    simp
  simp only [e]
  rfl

/-- The shifted input: the input's integer less the clipped zero point. -/
theorem shifted_apply (z : BitVec 32) (x : S1536x1024.Idx → BitVec 8) (r : Fin 1536) (k : Fin 1024) :
    shifted (F := Ideal) z x (ix2 (n0 := 1536) (n1 := 1024) r k)
      = ((((x (ix2 (n0 := 1536) (n1 := 1024) r k)).toInt - z.toInt : Int) : ℝ) : EReal) := by
  simp only [shifted, k0_pay3, pointwise]
  rw [Int.cast_sub, EReal.coe_sub]
  rfl

end Cert.KernelIdeal.Gen

end
-- ==== Proof.KernelIdeal.Flag.lean ====
/-
  What the flag says where it is set: the range of the parameters the fast path is taken for.
-/
module

public import proofs.«01_k».proof.Proof.KernelIdeal.Blocks
public import proofs.«01_k».proof.Proof.Requant.Shift
public import Idealize.ShloMosaic.Lib.Pointwise
public import Idealize.ShloMosaic.PureOps.Ideal

@[expose] public section

set_option maxRecDepth 16384

noncomputable section

namespace Cert.KernelIdeal.Gen

open Idealize.ShloMosaic

/-- A comparison's bit is set where the comparison holds. -/
theorem ofBool_eq_one {b : Bool} (h : BitVec.ofBool b = 1#1) : b = true := by
  revert h; revert b; decide

theorem ofBool_eq_zero {b : Bool} (h : BitVec.ofBool b = 0#1) : b = false := by
  revert h; revert b; decide

/-- If the maximum of the columns' marks is zero, no column is marked: its bias is less than `2^23` in size, its shift at
most 13 and its multiplier at least `2^30`. -/
theorem pay12_zero (x4 x6 x5 : S1x4096.Idx → BitVec 32) (h : k0_pay12 (F := Ideal) x4 x6 x5 = (0 : EReal)) (k : Fin 4096) :
    ((x4 (ix2 (n0 := 1) (n1 := 4096) 0 k)).toInt.natAbs < 2 ^ 23) ∧ (x6 (ix2 (n0 := 1) (n1 := 4096) 0 k)).toInt ≤ 13
      ∧ 2 ^ 30 ≤ (x5 (ix2 (n0 := 1) (n1 := 4096) 0 k)).toInt := by
  simp only [k0_pay12, pointwise] at h
  have hk := ((Finset.fold_max_le _).mp h.le).2 (0, k) (Finset.mem_univ _)
  dsimp only at hk
  have hbad : ∀ c : BitVec 1, (Scalar.select c (1 : EReal) 0 : EReal) ≤ 0 → c = 0#1 := fun c hc => by
    rcases (by decide : ∀ c : BitVec 1, c = 0#1 ∨ c = 1#1) c with rfl | rfl
    · rfl
    · exact absurd hc (by rw [show Scalar.select (1#1) (1 : EReal) 0 = 1 from rfl]; exact not_le.mpr zero_lt_one)
  have hor : ∀ a b c d : BitVec 1, IntOp.ori (IntOp.ori (IntOp.ori a b) c) d = 0#1 → a = 0#1 ∧ b = 0#1 ∧ c = 0#1 ∧ d = 0#1 := by decide
  obtain ⟨h1, h2, h3, h4⟩ := hor _ _ _ _ (hbad _ hk)
  have h1 := of_decide_eq_false (ofBool_eq_zero h1)
  have h2 := of_decide_eq_false (ofBool_eq_zero h2)
  have h3 := of_decide_eq_false (ofBool_eq_zero h3)
  have h4 := of_decide_eq_false (ofBool_eq_zero h4)
  rw [show (8388608#32).toInt = 8388608 from rfl] at h1
  rw [show (4286578688#32).toInt = -8388608 from rfl] at h2
  rw [show (13#32).toInt = 13 from rfl] at h3
  rw [show (1073741824#32).toInt = 1073741824 from rfl] at h4
  generalize (x4 (ix2 (n0 := 1) (n1 := 4096) 0 k)).toInt = b at *
  omega

/-- Where the flag is set every column is unmarked, the input zero point is its own clip, and the output zero point is
between −128 and 128. -/
theorem flag_set (x0 x1 : S1.Idx → BitVec 32) (x4 x5 x6 : S1x4096.Idx → BitVec 32) (h : flagWord (F := Ideal) x0 x1 x4 x5 x6 ≠ 0#32) :
    k0_pay12 (F := Ideal) x4 x6 x5 = (0 : EReal) ∧ word (F := Ideal) x0 = clipZp (word (F := Ideal) x0)
      ∧ -128 ≤ (word (F := Ideal) x1).toInt ∧ (word (F := Ideal) x1).toInt ≤ 128 := by
  have hand : ∀ a b c d : BitVec 1, Scalar.extui (Scalar.andi (Scalar.andi (Scalar.andi a b) c) d) ≠ 0#32 →
      a = 1#1 ∧ b = 1#1 ∧ c = 1#1 ∧ d = 1#1 := by decide +kernel
  obtain ⟨h1, h2, h3, h4⟩ := hand _ _ _ _ h
  refine ⟨?_, ?_, ?_, ?_⟩
  · generalize k0_pay12 (F := Ideal) x4 x6 x5 = p at h1 ⊢
    have h1 : Ideal.cmp .oeq p (Ideal.ofBits .f32 0x00000000#32) = 1#1 := h1
    rw [Ideal.cmp] at h1
    exact (of_decide_eq_true (ofBool_eq_one h1)).trans Ideal.ofBits_zero_f32
  · exact eq_of_beq (ofBool_eq_one h2)
  · exact of_decide_eq_true (ofBool_eq_one h3)
  · exact of_decide_eq_true (ofBool_eq_one h4)

/-- The clipped input zero point is an i8. -/
theorem clipZp_range (w : BitVec 32) : -128 ≤ (clipZp w).toInt ∧ (clipZp w).toInt ≤ 127 := by
  have e : (clipZp w).toInt = min 127 (max (-128) w.toInt) := Cert.Requant.toInt_clip w
  omega

end Cert.KernelIdeal.Gen

end
-- ==== Proof.KernelIdeal.Value.lean ====
/-
  The result array of a run of the kernel, element by element; the input blocks in terms of the arguments; and every run's
  final state: the result named, the arguments unchanged.
-/
module

public import proofs.«01_k».proof.Proof.KernelIdeal.Frame
public import Idealize.ShloMosaic.Lib.Pipeline.Value
public import Idealize.ShloMosaic.Lib.StableHlo.Run

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Distinct grid points write distinct blocks of the result. -/
theorem idx_inj7 : ∀ t t' : Fin cfg0.N, win0_7.index t = win0_7.index t' → t = t' :=
  (by decide +kernel : ∀ t t' : Fin grid0.N, win0_7.index t = win0_7.index t' → t = t')

/-- So no two points' blocks of the result meet. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- What a grid point writes back to the result is the block its body left. -/
theorem flushed7 (c : Dev nD) (t : Fin cfg0.N) :
    (dats m 0 c).flushed 7 t = (cfg0.win 7).cut (grid0.coords t) (outBlk m c t) := by
  show (cfg0.win 7).cut (grid0.coords t) ((dats m 0 c).after 7 t) = _
  rw [after0_7]

/-- The grid point whose column block holds column `k`. -/
def pointOf (k : Fin 4096) : Fin cfg0.N := ⟨k.val / 512, by
  have h := k.isLt
  show k.val / 512 < 8
  omega⟩

/-- The column of the block that holds column `k`. -/
def colIn (k : Fin 4096) : Fin 512 := ⟨k.val % 512, Nat.mod_lt _ (by decide)⟩

/-- Each point's block of the result starts at row 0 and at column 512 times the point's number; so does its block of the
packed weight. -/
theorem index7 : ∀ t : Fin cfg0.N, (win0_7.index t 0 = 0 ∧ win0_7.index t 1 = t.val) ∧ win0_3.index t 0 = 0 ∧ win0_3.index t 1 = t.val :=
  (by decide +kernel : ∀ t : Fin grid0.N, (win0_7.index t 0 = 0 ∧ win0_7.index t 1 = t.val) ∧ win0_3.index t 0 = 0 ∧ win0_3.index t 1 = t.val)

/-- Where an element of a point's block lies in the result. -/
theorem emb7 (r : Fin 1536) (k : Fin 4096) :
    (win0_7.rect (pointOf k)).emb (ix2 (n0 := 1536) (n1 := 512) r (colIn k)) = ix2 (n0 := 1536) (n1 := 4096) r k := by
  refine Shape.idx_ext₂ ?_ ?_
  · exact Pipeline.Window.rect_emb_val_of_index_zero win0_7 (pointOf k) 0 (index7 (pointOf k)).1.1 (ix2 (n0 := 1536) (n1 := 512) r (colIn k))
  · refine (Pipeline.Window.rect_emb_val win0_7 (pointOf k) (ix2 (n0 := 1536) (n1 := 512) r (colIn k)) 1).trans ?_
    rw [(index7 (pointOf k)).1.2]
    show k.val / 512 * 512 + k.val % 512 = k.val
    omega

/-- Element `(r, k)` of the result is element `(r, k mod 512)` of the block the body left at the point of column `k`. -/
theorem final_apply (c : Dev nD) (r : Fin 1536) (k : Fin 4096) :
    ((dats m 0 c).arrAt 7 cfg0.N : S1536x4096.Idx → BitVec 8) (ix2 (n0 := 1536) (n1 := 4096) r k)
      = outBlk m c (pointOf k) (ix2 (n0 := 1536) (n1 := 512) r (colIn k)) := by
  have h := (dats m 0 c).arrAt_emb_eq_flushed 7 disjoint7 (pointOf k) (flush0_7 _) (ix2 (n0 := 1536) (n1 := 512) r (colIn k))
  rw [flushed7] at h
  have he : ((cfg0.win 7).blk (pointOf k)).view.emb (ix2 (n0 := 1536) (n1 := 512) r (colIn k)) = ix2 (n0 := 1536) (n1 := 4096) r k := emb7 r k
  exact (congrArg (fun j => ((dats m 0 c).arrAt 7 cfg0.N : S1536x4096.Idx → BitVec 8) j) he).symm.trans h

/-! ## The input blocks in terms of the arguments -/

/-- Window 0's block is, at every point, the input zero point. -/
theorem iblk_0 (c : Dev nD) (t : Fin cfg0.N) :
    (iblk m c 0 t : Vec F S1 .i32) = shapeCast S1 (m ((c : Thread nD τ).loc main_arg1) : Vec F S_ .i32) shapeCasts_S_S1 := by
  have hz : (fun a => win0_0.index t a * main_v0.ty.shape.size a) = fun _ => 0 := funext fun a => by fin_cases a <;> rfl
  have hv : V m c main_v0 = shapeCast S1 (m ((c : Thread nD τ).loc main_arg1) : Vec F S_ .i32) shapeCasts_S_S1 := by
    show StableHlo.after hostOps0 (fun b => m (c, b)) (Proc.devRef .tc main_v0) = _
    simp only [hostOps0]
    after_results_simp
    rfl
  rw [← hv]
  exact Memref.read_access_unit_zero (Elt F) main_v0 hz (fun a => by rw [congrFun hz a]; simp) (V m c main_v0)

/-- Window 1's block is, at every point, the output zero point. -/
theorem iblk_1 (c : Dev nD) (t : Fin cfg0.N) :
    (iblk m c 1 t : Vec F S1 .i32) = shapeCast S1 (m ((c : Thread nD τ).loc main_arg6) : Vec F S_ .i32) shapeCasts_S_S1 := by
  have hz : (fun a => win0_1.index t a * main_v1.ty.shape.size a) = fun _ => 0 := funext fun a => by fin_cases a <;> rfl
  have hv : V m c main_v1 = shapeCast S1 (m ((c : Thread nD τ).loc main_arg6) : Vec F S_ .i32) shapeCasts_S_S1 := by
    show StableHlo.after hostOps0 (fun b => m (c, b)) (Proc.devRef .tc main_v1) = _
    simp only [hostOps0]
    after_results_simp
    rfl
  rw [← hv]
  exact Memref.read_access_unit_zero (Elt F) main_v1 hz (fun a => by rw [congrFun hz a]; simp) (V m c main_v1)

/-- Window 2's block is, at every point, the input, its first two axes merged. -/
theorem iblk_2 (c : Dev nD) (t : Fin cfg0.N) :
    (iblk m c 2 t : Vec F S1536x1024 .i8) = shapeCast S1536x1024 (m ((c : Thread nD τ).loc main_arg0) : Vec F S6x256x1024 .i8) shapeCasts_S6x256x1024_S1536x1024 := by
  have hz : (fun a => win0_2.index t a * main_v2.ty.shape.size a) = fun _ => 0 := funext fun a => by fin_cases a <;> rfl
  have hv : V m c main_v2 = shapeCast S1536x1024 (m ((c : Thread nD τ).loc main_arg0) : Vec F S6x256x1024 .i8) shapeCasts_S6x256x1024_S1536x1024 := by
    show StableHlo.after hostOps0 (fun b => m (c, b)) (Proc.devRef .tc main_v2) = _
    simp only [hostOps0]
    after_results_simp
    rfl
  rw [← hv]
  exact Memref.read_access_unit_zero (Elt F) main_v2 hz (fun a => by rw [congrFun hz a]; simp) (V m c main_v2)

/-- Window 4's block is, at every point, the bias, as a row. -/
theorem iblk_4 (c : Dev nD) (t : Fin cfg0.N) :
    (iblk m c 4 t : Vec F S1x4096 .i32) = shapeCast S1x4096 (m ((c : Thread nD τ).loc main_arg3) : Vec F S4096 .i32) shapeCasts_S4096_S1x4096 := by
  have hz : (fun a => win0_4.index t a * main_v3.ty.shape.size a) = fun _ => 0 := funext fun a => by fin_cases a <;> rfl
  have hv : V m c main_v3 = shapeCast S1x4096 (m ((c : Thread nD τ).loc main_arg3) : Vec F S4096 .i32) shapeCasts_S4096_S1x4096 := by
    show StableHlo.after hostOps0 (fun b => m (c, b)) (Proc.devRef .tc main_v3) = _
    simp only [hostOps0]
    after_results_simp
    rfl
  rw [← hv]
  exact Memref.read_access_unit_zero (Elt F) main_v3 hz (fun a => by rw [congrFun hz a]; simp) (V m c main_v3)

/-- Window 5's block is, at every point, the multipliers, as a row. -/
theorem iblk_5 (c : Dev nD) (t : Fin cfg0.N) :
    (iblk m c 5 t : Vec F S1x4096 .i32) = shapeCast S1x4096 (m ((c : Thread nD τ).loc main_arg4) : Vec F S4096 .i32) shapeCasts_S4096_S1x4096 := by
  have hz : (fun a => win0_5.index t a * main_v4.ty.shape.size a) = fun _ => 0 := funext fun a => by fin_cases a <;> rfl
  have hv : V m c main_v4 = shapeCast S1x4096 (m ((c : Thread nD τ).loc main_arg4) : Vec F S4096 .i32) shapeCasts_S4096_S1x4096 := by
    show StableHlo.after hostOps0 (fun b => m (c, b)) (Proc.devRef .tc main_v4) = _
    simp only [hostOps0]
    after_results_simp
    rfl
  rw [← hv]
  exact Memref.read_access_unit_zero (Elt F) main_v4 hz (fun a => by rw [congrFun hz a]; simp) (V m c main_v4)

/-- Window 6's block is, at every point, the shifts, as a row. -/
theorem iblk_6 (c : Dev nD) (t : Fin cfg0.N) :
    (iblk m c 6 t : Vec F S1x4096 .i32) = shapeCast S1x4096 (m ((c : Thread nD τ).loc main_arg5) : Vec F S4096 .i32) shapeCasts_S4096_S1x4096 := by
  have hz : (fun a => win0_6.index t a * main_v5.ty.shape.size a) = fun _ => 0 := funext fun a => by fin_cases a <;> rfl
  have hv : V m c main_v5 = shapeCast S1x4096 (m ((c : Thread nD τ).loc main_arg5) : Vec F S4096 .i32) shapeCasts_S4096_S1x4096 := by
    show StableHlo.after hostOps0 (fun b => m (c, b)) (Proc.devRef .tc main_v5) = _
    simp only [hostOps0]
    after_results_simp
    rfl
  rw [← hv]
  exact Memref.read_access_unit_zero (Elt F) main_v5 hz (fun a => by rw [congrFun hz a]; simp) (V m c main_v5)

/-- Window 3's block at a point is the point's 512 columns of the packed weight. -/
theorem iblk_3 (c : Dev nD) (k : Fin 4096) (i : Fin 512) :
    (iblk m c 3 (pointOf k) : Vec F S512x512 .i8) (ix2 (n0 := 512) (n1 := 512) i (colIn k))
      = (m ((c : Thread nD τ).loc main_arg2) : Vec F S512x4096 .i8) (ix2 (n0 := 512) (n1 := 4096) i k) := by
  have he : (win0_3.rect (pointOf k)).emb (ix2 (n0 := 512) (n1 := 512) i (colIn k)) = ix2 (n0 := 512) (n1 := 4096) i k := by
    refine Shape.idx_ext₂ ?_ ?_
    · exact Pipeline.Window.rect_emb_val_of_index_zero win0_3 (pointOf k) 0 (index7 (pointOf k)).2.1 (ix2 (n0 := 512) (n1 := 512) i (colIn k))
    · refine (Pipeline.Window.rect_emb_val win0_3 (pointOf k) (ix2 (n0 := 512) (n1 := 512) i (colIn k)) 1).trans ?_
      rw [(index7 (pointOf k)).2.2]
      show k.val / 512 * 512 + k.val % 512 = k.val
      omega
  unfold iblk
  rw [View.read_apply]
  exact (congrArg (fun j => (V m c main_arg2 : Vec F S512x4096 .i8) j) he).trans (congrFun (V_main_arg2 m c) _)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v6) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 3 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- Every run ends with the result array named and the arguments as they were launched. -/
theorem run_blocks : θ_run defs (onTc (τ := τ) (main (F := F))) ⟨m, fun _ => 0, ρ⟩ fun r => ∀ c : Dev nD,
      r.2.mem ((c : Thread nD τ).loc main_v6) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.KernelIdeal.Gen

end
-- ==== Proof.KernelIdeal.Result.lean ====
/-
  The kernel's result at an element, over the ideal values: whichever path the flag picks, the requantized accumulator of
  its row of inputs and its column of weights.
-/
module

public import proofs.«01_k».proof.Proof.KernelIdeal.Chunk
public import proofs.«01_k».proof.Proof.KernelIdeal.Flag
public import proofs.«01_k».proof.Proof.KernelIdeal.Value

@[expose] public section

set_option maxRecDepth 16384

noncomputable section

namespace Cert.KernelIdeal.Gen

open Idealize.ShloMosaic Idealize.ShloMosaic.TcCoe Cert.Requant

/-- Entry `k` of a column parameter is entry `k mod 512` of its column block at the point of column `k`. -/
theorem colsAt_apply (x : S4096.Idx → BitVec 32) (k : Fin 4096) :
    colsAt (F := Ideal) (grid0.coords (pointOf k)) (shapeCast S1x4096 x shapeCasts_S4096_S1x4096) (ix2 (n0 := 1) (n1 := 512) 0 (colIn k))
      = x (ix1 (n0 := 4096) k) := by
  have hc : ∀ t : Fin cfg0.N, (grid0.coords t 0).val = t.val := (by decide +kernel : ∀ t : Fin grid0.N, (grid0.coords t 0).val = t.val)
  simp only [colsAt, pointwise]
  refine congrArg x (congrArg (ix1 (n0 := 4096)) (Fin.ext ?_))
  show k0_off1 (grid0.coords (pointOf k)) 1 + 1 * (k.val % 512) = k.val
  rw [k0_off1_eq]
  show 512 * (grid0.coords (pointOf k) 0).val + 1 * (k.val % 512) = k.val
  rw [hc]
  show 512 * (k.val / 512) + 1 * (k.val % 512) = k.val
  omega

/-- The signed 4-bit weights of column `c` of a packed block. -/
def column {n : Nat} (w : (⟨2, ![512, n]⟩ : Shape).Idx → BitVec 8) (c : Fin n) (j : Fin 1024) : Int :=
  nib (w (ix2 (n0 := 512) (n1 := n) ⟨j.val / 2, by omega⟩ c)) (j.val % 2)

/-- Row `r` of the input. -/
def row (x : S1536x1024.Idx → BitVec 8) (r : Fin 1536) (j : Fin 1024) : BitVec 8 := x (ix2 (n0 := 1536) (n1 := 1024) r j)

variable (xc xzp yzp : BitVec 32) (b m s : S1x512.Idx → BitVec 32) (w : S512x512.Idx → BitVec 8) (x : S1536x1024.Idx → BitVec 8)

/-- The product of a chunk's row and a column of weights is the integer sum of the products. -/
theorem product_int {n o : Nat} (ho : o + n ≤ 1536) (a : Fin n) (r : Fin 1536) (hr : o + a.val = r.val) (c : Fin 512) :
    (∑ k : Fin 1024, rowsAt (F := Ideal) (n := n) (shifted (F := Ideal) xc x) o ho (ix2 (n0 := n) (n1 := 1024) a k)
        * k0_pay47 (F := Ideal) w (ix2 (n0 := 1024) (n1 := 512) k c) : EReal)
      = (((∑ k : Fin 1024, ((row x r k).toInt - xc.toInt) * column w c k : Int) : ℝ) : EReal) := by
  rw [← sum_int]
  refine Finset.sum_congr rfl fun k _ => ?_
  have e : rowsAt (F := Ideal) (n := n) (shifted (F := Ideal) xc x) o ho (ix2 (n0 := n) (n1 := 1024) a k)
      = shifted (F := Ideal) xc x (ix2 (n0 := 1536) (n1 := 1024) r k) :=
    congrArg (fun i => shifted (F := Ideal) xc x (ix2 (n0 := 1536) (n1 := 1024) i k)) (Fin.ext hr)
  rw [e, shifted_apply, pay47_apply, Int.cast_mul, EReal.coe_mul]
  rfl

/-- The sum of a column of weights is the integer sum. -/
theorem weights_int (c : Fin 512) :
    (∑ k : Fin 1024, k0_pay47 (F := Ideal) w (ix2 (n0 := 1024) (n1 := 512) k c) : EReal) = (((∑ k : Fin 1024, column w c k : Int) : ℝ) : EReal) := by
  rw [← sum_int]
  exact Finset.sum_congr rfl fun k _ => pay47_apply w k c

/-- The products' sum is small, the zero point being an i8. -/
theorem product_small (hc : -128 ≤ xc.toInt ∧ xc.toInt ≤ 127) (r : Fin 1536) (c : Fin 512) :
    (∑ k : Fin 1024, ((row x r k).toInt - xc.toInt) * column w c k).natAbs ≤ 1024 * (255 * 8) :=
  natAbs_shifted_sum _ _ _ hc.1 hc.2 fun _ => nib_range _ _

/-- An element of the fast path's block, in the range the path is taken for: the requantized accumulator. -/
theorem fastOut_apply (r : Fin 1536) (c : Fin 512) (hc : -128 ≤ xc.toInt ∧ xc.toInt ≤ 127)
    (hb : (b (ix2 (n0 := 1) (n1 := 512) 0 c)).toInt.natAbs < 2 ^ 23) (hm : 2 ^ 30 ≤ (m (ix2 (n0 := 1) (n1 := 512) 0 c)).toInt)
    (h1 : 1 ≤ (s (ix2 (n0 := 1) (n1 := 512) 0 c)).toInt) (h2 : (s (ix2 (n0 := 1) (n1 := 512) 0 c)).toInt ≤ 13)
    (hz : -128 ≤ yzp.toInt) (hz' : yzp.toInt ≤ 128) :
    fastOut (F := Ideal) yzp b m s (k0_pay47 (F := Ideal) w) (shifted (F := Ideal) xc x) (ix2 (n0 := 1536) (n1 := 512) r c)
      = requant (accum (row x r) (column w c) xc (b (ix2 (n0 := 1) (n1 := 512) 0 c)))
          (m (ix2 (n0 := 1) (n1 := 512) 0 c)) (s (ix2 (n0 := 1) (n1 := 512) 0 c)) yzp := by
  have hp := product_small xc w x hc r c
  have hs : (s (ix2 (n0 := 1) (n1 := 512) 0 c)).toNat = (s (ix2 (n0 := 1) (n1 := 512) 0 c)).toInt := by
    rw [BitVec.toInt_eq_toNat_cond] at h1 h2 ⊢
    have := (s (ix2 (n0 := 1) (n1 := 512) 0 c)).isLt
    split_ifs at h1 h2 ⊢ <;> omega
  have ha := accum_shifted (row x r) (column w c) xc (b (ix2 (n0 := 1) (n1 := 512) 0 c)) xc
  rw [sub_self, zero_mul, sub_zero] at ha
  refine (fastChunk_apply yzp b m s _ _ _ c).trans ?_
  rw [product_int xc w x _ _ r (Nat.div_add_mod r.val 256) c, ← ha]
  exact fast_eq _ _ _ _ _ (by omega) hm (by omega) (by omega) hz hz'

/-- An element of the slow path's block: the requantized accumulator. -/
theorem slowOut_apply (r : Fin 1536) (c : Fin 512) :
    slowOut (F := Ideal) xzp yzp b m s (k0_pay47 (F := Ideal) w) (shifted (F := Ideal) (clipZp xzp) x) (ix2 (n0 := 1536) (n1 := 512) r c)
      = requant (accum (row x r) (column w c) xzp (b (ix2 (n0 := 1) (n1 := 512) 0 c)))
          (m (ix2 (n0 := 1) (n1 := 512) 0 c)) (s (ix2 (n0 := 1) (n1 := 512) 0 c)) yzp := by
  have hp := product_small (clipZp xzp) w x (clipZp_range xzp) r c
  have hw : (∑ k : Fin 1024, column w c k).natAbs ≤ 1024 * 8 :=
    natAbs_sum_le _ _ fun k => by have := nib_range (w (ix2 (n0 := 512) (n1 := 512) ⟨k.val / 2, by omega⟩ c)) (k.val % 2); rw [column]; omega
  refine (slowChunk_apply xzp yzp b m s _ _ _ c).trans ?_
  rw [pay33_apply, pay2_apply, product_int (clipZp xzp) w x _ _ r (Nat.div_add_mod r.val 128) c, weights_int,
    fptosi_int _ (by omega) (by omega), fptosi_int _ (by omega) (by omega), accum_shifted]

/-- The value the kernel's result is to have at row `r` and column `k`, of its arguments. -/
def value (a0 : S6x256x1024.Idx → BitVec 8) (a1 : S_.Idx → BitVec 32) (a2 : S512x4096.Idx → BitVec 8) (a3 a4 a5 : S4096.Idx → BitVec 32)
    (a6 : S_.Idx → BitVec 32) (r : Fin 1536) (k : Fin 4096) : BitVec 8 :=
  requant (accum (row (shapeCast S1536x1024 a0 shapeCasts_S6x256x1024_S1536x1024) r) (column (n := 4096) a2 k) (a1 ix0) (a3 (ix1 (n0 := 4096) k)))
    (a4 (ix1 (n0 := 4096) k)) (a5 (ix1 (n0 := 4096) k)) (a6 ix0)

/-- The word of a scalar argument's one-element row. -/
theorem word_scalar (a : S_.Idx → BitVec 32) : word (F := Ideal) (shapeCast S1 a shapeCasts_S_S1) = a ix0 :=
  congrArg a (funext fun i => i.elim0)

/-- The kernel's result at an element, where every shift is at least 1. -/
theorem final_value (mem : (ℓ : Loc nD τ sig) → Buf (Elt Ideal) ℓ) (c : Dev nD)
    (hs : ∀ k : Fin 4096, 1 ≤ ((mem ((c : Thread nD τ).loc main_arg5) : Vec Ideal S4096 .i32) (ix1 (n0 := 4096) k)).toInt) (r : Fin 1536) (k : Fin 4096) :
    ((dats mem 0 c).arrAt 7 cfg0.N : S1536x4096.Idx → BitVec 8) (ix2 (n0 := 1536) (n1 := 4096) r k)
      = value (mem ((c : Thread nD τ).loc main_arg0)) (mem ((c : Thread nD τ).loc main_arg1)) (mem ((c : Thread nD τ).loc main_arg2))
          (mem ((c : Thread nD τ).loc main_arg3)) (mem ((c : Thread nD τ).loc main_arg4)) (mem ((c : Thread nD τ).loc main_arg5))
          (mem ((c : Thread nD τ).loc main_arg6)) r k := by
  have hcol : column (n := 512) (iblk mem c 3 (pointOf k)) (colIn k) = column (n := 4096) (mem ((c : Thread nD τ).loc main_arg2)) k :=
    funext fun j => congrArg (fun w => nib w (j.val % 2)) (iblk_3 mem c k ⟨j.val / 2, by omega⟩)
  have e48 : ∀ x : S1x512.Idx → BitVec 32, k0_pay48 (F := Ideal) x = x := fun x => by simp only [k0_pay48, shapeCast_self]
  have e49 : ∀ x : S1x512.Idx → BitVec 32, k0_pay49 (F := Ideal) x = x := fun x => by simp only [k0_pay49, shapeCast_self]
  have e50 : ∀ x : S1x512.Idx → BitVec 32, k0_pay50 (F := Ideal) x = x := fun x => by simp only [k0_pay50, shapeCast_self]
  have hsc : ∀ x : S4096.Idx → BitVec 32, shapeCast S1x4096 x shapeCasts_S4096_S1x4096 (ix2 (n0 := 1) (n1 := 4096) 0 k) = x (ix1 (n0 := 4096) k) := fun x => by
    simp only [pointwise]
  rw [final_apply, outBlk, carriedX, carriedF, e48, e49, e50]
  simp only [iblk_0, iblk_1, iblk_2, iblk_4, iblk_5, iblk_6]
  split_ifs with hf
  · obtain ⟨hp, hx, hz, hz'⟩ := flag_set _ _ _ _ _ hf
    rw [word_scalar] at hx
    rw [word_scalar] at hz hz'
    obtain ⟨hb, h2, hm⟩ := pay12_zero _ _ _ hp k
    rw [hsc] at hb h2 hm
    rw [word_scalar, word_scalar, ← hx]
    rw [fastOut_apply _ _ _ _ _ _ _ r (colIn k) (hx ▸ clipZp_range _) (by rwa [colsAt_apply]) (by rwa [colsAt_apply]) (by rw [colsAt_apply]; exact hs k)
      (by rwa [colsAt_apply]) hz hz', hcol, colsAt_apply, colsAt_apply, colsAt_apply]
    rfl
  · rw [word_scalar, word_scalar, slowOut_apply, hcol, colsAt_apply, colsAt_apply, colsAt_apply]
    rfl

end Cert.KernelIdeal.Gen

end
-- ==== Proof.ReferenceIdeal.Body.lean ====
/-
  The reference's region: what it writes to the result, as a function of its operands, and one element of it.
-/
module

public import proofs.«01_k».proof.Proof.Gen.ReferenceIdeal.Value
public import proofs.«01_k».proof.Proof.Requant.Words
public import Idealize.ShloMosaic.Lib.Pipeline.Value
public import Idealize.ShloMosaic.Lib.Pipeline.ValueKit.Acc
public import Idealize.ShloMosaic.Lib.StableHlo.Run
public import Idealize.ShloMosaic.Lib.IntMxu
public import Idealize.ShloMosaic.Lib.Pointwise
public import Idealize.ShloMosaic.Lib.Tactic

@[expose] public section

set_option maxRecDepth 16384

noncomputable section

namespace Cert.ReferenceIdeal.Gen

open Cert Idealize.ShloMosaic Idealize.ShloMosaic.TcCoe

variable {F : FTy → Type} [FloatOps F]

/-- The offsets of a whole rank-2 block are 0. -/
theorem hz : (![0, 0] : Fin 2 → Nat) = fun _ => 0 := funext fun a => by fin_cases a <;> rfl

/-- The offset of a whole rank-1 block is 0. -/
theorem hz1 : (![0] : Fin 1 → Nat) = fun _ => 0 := funext fun a => by fin_cases a <;> rfl

/-- What the region writes to the result: the sum of the two products, corrected by the zero point and the bias, and
requantized. -/
theorem out_A (c : Dev nD) (arg0 : Memref sig .tc .vmem S1536x512 .i8) (harg0 : arg0.IsWhole) (arg1 : Memref sig .tc .vmem S1536x512 .i8) (harg1 : arg1.IsWhole) (arg2 : Memref sig .tc .vmem S512x4096 .i8) (harg2 : arg2.IsWhole) (arg3 : Memref sig .tc .vmem S512x4096 .i8) (harg3 : arg3.IsWhole) (arg4 : Memref sig .tc .vmem S4096 .i32) (harg4 : arg4.IsWhole) (arg5 : Memref sig .tc .smem S1 .i32) (harg5 : arg5.IsWhole) (arg6 : Memref sig .tc .vmem S4096 .i32) (harg6 : arg6.IsWhole) (arg7 : Memref sig .tc .vmem S4096 .i32) (harg7 : arg7.IsWhole) (arg8 : Memref sig .tc .vmem S4096 .i32) (harg8 : arg8.IsWhole) (arg9 : Memref sig .tc .smem S1 .i32) (harg9 : arg9.IsWhole) (arg10 : Memref sig .tc .vmem S1536x4096 .i8) (harg10 : arg10.IsWhole) (arg11 : Memref sig .tc .vmem S1536x4096 .i32) (harg11 : arg11.IsWhole)
    (x0 : Vec F S1536x512 .i8) (x1 : Vec F S1536x512 .i8) (x2 : Vec F S512x4096 .i8) (x3 : Vec F S512x4096 .i8) (x4 : Vec F S4096 .i32) (x5 : Vec F S1 .i32) (x6 : Vec F S4096 .i32) (x7 : Vec F S4096 .i32) (x8 : Vec F S4096 .i32) (x9 : Vec F S1 .i32) :
    out0_A_10 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9
      = k0_pay1 (F := F) (x9 (ix1 (n0 := 1) 0)) (k0_pay5 (F := F) (k0_pay4 (F := F) (k0_pay3 (F := F) (k0_pay2 (F := F) x0 x2) x1 x3) (x5 (ix1 (n0 := 1) 0)) x4 x6) x7) (k0_pay6 (F := F) x8) (k0_pay7 (F := F) x8) := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9)]
  unfold kernelRun0_A
  dsimp only
  sl_unfold_words
  rw [View.canon_unit_zero hz]
  rw [View.readCov_cons_unit_lit' (S := S1536x4096) arg11.view inb_S1536x4096_S1536x4096_0_0 inb_S1536x4096_S1536x4096_0_0 _ _ (fun a => congrFun hz a) (fun a => congrFun hz a)]
  rw [View.readCov_unit_lit' (S := S1536x4096) arg11.view inb_S1536x4096_S1536x4096_0_0 _ (fun a => congrFun hz a)]
  simp only [View.readAt_eq_ld, harg0.read_unread, harg1.read_unread, harg2.read_unread, harg3.read_unread, harg4.read_unread, harg5.read_unread, harg6.read_unread, harg7.read_unread, harg8.read_unread, harg9.read_unread, View.ld_unit_zero (S := S1536x512) hz, View.ld_unit_zero (S := S512x4096) hz, View.ld_unit_zero (S := S4096) hz1, View.ld_unit_zero (S := S1) hz1]
  have hs : ∀ x : Vec F S1 .i32, View.ld x (Rect.unit ![0] S1.size inb_S1_S1_0) (Shape.Idx.first (numel1_S1 ▸ Nat.one_pos)) = x (ix1 (n0 := 1) 0) :=
    fun x => congrArg x (funext fun a => by fin_cases a; rfl)
  exact congrArg₂ (fun y z => k0_pay1 (F := F) y (k0_pay5 (F := F) (k0_pay4 (F := F) (k0_pay3 (F := F) (k0_pay2 (F := F) x0 x2) x1 x3) z x4 x6) x7) (k0_pay6 (F := F) x8) (k0_pay7 (F := F) x8)) (hs x9) (hs x5)

/-- The product of one pair of factors, at one element: exact, being within the bound the unit is exact to. -/
theorem dot_apply (x : S1536x512.Idx → BitVec 8) (w : S512x4096.Idx → BitVec 8) (r : Fin 1536) (k : Fin 4096) :
    matmulI8 IntMxuNumerics.v7x dot_S1536x512_S512x4096_S1536x4096_1_0_0_1_n_n x w (constantI S1536x4096 32 0#32) (ix2 r k)
      = BitVec.ofInt 32 (∑ i : Fin 512, (x (ix2 r i)).toInt * (w (ix2 i k)).toInt) := by
  rw [matmulI8_exact_of_numel _ _ x w _ _ rfl (by decide)]
  unfold dotI8
  rw [DotDims.sum_contr₁ _ (a := 1) rfl (K := 512) rfl]
  refine congrArg _ (Finset.sum_congr rfl fun i _ => ?_)
  rw [← Shape.Idx.norm_def (DotDims.lhsIdx _ _ _), ← Shape.Idx.norm_def (DotDims.rhsIdx _ _ _)]
  simp only [pointwise]

/-- The doubling high product, at one element. -/
theorem doubled_apply (a : S1536x4096.Idx → BitVec 32) (x7 : S4096.Idx → BitVec 32) (r : Fin 1536) (k : Fin 4096) :
    k0_pay5 (F := F) a x7 (ix2 r k) = Requant.doubledHigh (a (ix2 r k)) (x7 (ix1 k)) := by
  simp only [k0_pay5, shapeCast_self, pointwise]
  rfl

/-- The rounding shift, the output zero point and the clip, at one element. -/
theorem clipped_apply (y : BitVec 32) (h : S1536x4096.Idx → BitVec 32) (x8 : S4096.Idx → BitVec 32) (r : Fin 1536) (k : Fin 4096) :
    k0_pay1 (F := F) y h (k0_pay6 (F := F) x8) (k0_pay7 (F := F) x8) (ix2 r k)
      = (IntOp.minsi 127#32 (IntOp.maxsi 4294967168#32 (IntOp.addi (Requant.roundShift (h (ix2 r k)) (x8 (ix1 k))) y))).setWidth 8 := by
  simp only [k0_pay1, k0_pay6, k0_pay7, shapeCast_self, pointwise]
  rfl

/-- The accumulator, at one element. -/
theorem acc_apply (x0 x1 : S1536x512.Idx → BitVec 8) (x2 x3 : S512x4096.Idx → BitVec 8) (x4 : S4096.Idx → BitVec 32) (z : BitVec 32) (x6 : S4096.Idx → BitVec 32)
    (r : Fin 1536) (k : Fin 4096) :
    k0_pay4 (F := F) (k0_pay3 (F := F) (k0_pay2 (F := F) x0 x2) x1 x3) z x4 x6 (ix2 r k)
      = BitVec.ofInt 32 (∑ i : Fin 512, (x0 (ix2 r i)).toInt * (x2 (ix2 i k)).toInt) + BitVec.ofInt 32 (∑ i : Fin 512, (x1 (ix2 r i)).toInt * (x3 (ix2 i k)).toInt)
            - z * x4 (ix1 k) + x6 (ix1 k) := by
  rw [← dot_apply, ← dot_apply]
  simp only [k0_pay2, k0_pay3, k0_pay4, shapeCast_self, pointwise]
  generalize matmulI8 _ _ _ _ _ _ = a
  generalize matmulI8 _ _ _ _ _ _ = b
  rfl

/-- The written value, at one element. -/
theorem pay_apply (x0 x1 : S1536x512.Idx → BitVec 8) (x2 x3 : S512x4096.Idx → BitVec 8) (x4 : S4096.Idx → BitVec 32) (z : BitVec 32) (x6 : S4096.Idx → BitVec 32)
   (x7 x8 : S4096.Idx → BitVec 32) (y : BitVec 32)  (r : Fin 1536) (k : Fin 4096) :
    k0_pay1 (F := F) y (k0_pay5 (F := F) (k0_pay4 (F := F) (k0_pay3 (F := F) (k0_pay2 (F := F) x0 x2) x1 x3) z x4 x6) x7) (k0_pay6 (F := F) x8) (k0_pay7 (F := F) x8) (ix2 r k)
      = Requant.requant
         (BitVec.ofInt 32 (∑ i : Fin 512, (x0 (ix2 r i)).toInt * (x2 (ix2 i k)).toInt) + BitVec.ofInt 32 (∑ i : Fin 512, (x1 (ix2 r i)).toInt * (x3 (ix2 i k)).toInt)
            - z * x4 (ix1 k) + x6 (ix1 k)) (x7 (ix1 k)) (x8 (ix1 k)) y := by
  rw [clipped_apply, doubled_apply, acc_apply]
  rfl

end Cert.ReferenceIdeal.Gen

end
-- ==== Proof.ReferenceIdeal.Host.lean ====
/-
  What the reference's host operations leave for its region: the two halves of the packed weight, its column sums, the two
  halves of the input's columns and the zero points; and what each of the region's operands is, in the arguments.
-/
module

public import proofs.«01_k».proof.Proof.Gen.ReferenceIdeal.Value
public import proofs.«01_k».proof.Proof.Requant.Sums
public import Idealize.ShloMosaic.Lib.Pipeline.Value
public import Idealize.ShloMosaic.Lib.StableHlo.Run
public import Idealize.ShloMosaic.Lib.Pointwise

@[expose] public section

set_option maxRecDepth 16384

noncomputable section

namespace Cert.ReferenceIdeal.Gen

open Cert Idealize.ShloMosaic Idealize.ShloMosaic.TcCoe

variable {F : FTy → Type} [FloatOps F]

/-- The signed low halves of the packed bytes. -/
def low (w : S512x4096.Idx → BitVec 8) : S512x4096.Idx → BitVec 8 :=
  fun i => Requant.half (IntOp.andi ((w i).setWidth 32) 15#32)

/-- The signed high halves of the packed bytes. -/
def high (w : S512x4096.Idx → BitVec 8) : S512x4096.Idx → BitVec 8 :=
  fun i => Requant.half (IntOp.andi (IntOp.shrsi .vector ((w i).setWidth 32) 4#32) 15#32)

/-- The words' sum down each column. -/
def columnSums (w : S512x4096.Idx → BitVec 8) : S4096.Idx → BitVec 32 :=
  Host.reduce IntOp.addi (extsi 32 w natLt_8_32) (constantI S_ 32 0#32) reducesTo_S512x4096_S4096_d0 h_S_

/-- The input, its first two axes merged. -/
def rows (x : S6x256x1024.Idx → BitVec 8) : S1536x1024.Idx → BitVec 8 := shapeCast S1536x1024 x shapeCasts_S6x256x1024_S1536x1024

/-- A column's sum is the integer sum of its entries, as a word. -/
theorem columnSums_apply (w : S512x4096.Idx → BitVec 8) (k : Fin 4096) :
    columnSums w (ix1 (n0 := 4096) k) = BitVec.ofInt 32 (∑ i : Fin 512, (w (ix2 (n0 := 512) (n1 := 4096) i k)).toInt) := by
  simp only [columnSums, pointwise]
  induction (Finset.univ : Finset (Fin 512)) using Finset.cons_induction with
  | empty => rfl
  | cons a S ha ih =>
    rw [Finset.fold_cons, Finset.sum_cons, ih, BitVec.ofInt_add]
    rfl

variable (m : (ℓ : Loc nD τ sig) → Buf (Elt F) ℓ)

/-- The arrays the host operations leave, in the arguments. -/
theorem host_values (c : Dev nD) :
    (V m c main_v12 : Vec F S512x4096 .i8) = low (m ((c : Thread nD τ).loc main_arg2))
    ∧ (V m c main_v18 : Vec F S512x4096 .i8) = high (m ((c : Thread nD τ).loc main_arg2))
    ∧ (V m c main_v23 : Vec F S4096 .i32) = addi (columnSums (low (m ((c : Thread nD τ).loc main_arg2)))) (columnSums (high (m ((c : Thread nD τ).loc main_arg2))))
    ∧ (V m c main_v25 : Vec F S1536x512 .i8) = Host.slice S1536x512 ![0, 0] ![1, 2] (rows (m ((c : Thread nD τ).loc main_arg0))) slicesBy_S1536x1024_S1536x512_0s1_0s2
    ∧ (V m c main_v26 : Vec F S1536x512 .i8) = Host.slice S1536x512 ![0, 1] ![1, 2] (rows (m ((c : Thread nD τ).loc main_arg0))) slicesBy_S1536x1024_S1536x512_0s1_1s2
    ∧ (V m c main_v27 : Vec F S1 .i32) = shapeCast S1 (m ((c : Thread nD τ).loc main_arg1) : Vec F S_ .i32) shapeCasts_S_S1
    ∧ (V m c main_v28 : Vec F S1 .i32) = shapeCast S1 (m ((c : Thread nD τ).loc main_arg6) : Vec F S_ .i32) shapeCasts_S_S1 := by
  refine ⟨?_, ?_, ?_, ?_, ?_, ?_, ?_⟩ <;>
  · simp only [V, hostOps0, hostOps0_1, hostOps0_2, hostOps0_3, hostOps0_4, List.flatten_cons, List.flatten_nil, List.append_nil,
      List.cons_append, List.nil_append]
    after_results_simp
    rfl

/-- Every second column of an array, from column `o` on. -/
theorem slice_apply (o : Nat) (ho : o < 2) (x : S1536x1024.Idx → BitVec 8) (h : S1536x1024.SlicesBy (![0, o] : Fin 2 → Nat) ![1, 2] S1536x512)
    (r : Fin 1536) (i : Fin 512) :
    Host.slice S1536x512 ![0, o] ![1, 2] x h (ix2 (n0 := 1536) (n1 := 512) r i)
      = x (ix2 (n0 := 1536) (n1 := 1024) r ⟨2 * i.val + o, by omega⟩) := by
  refine congrArg x (Shape.idx_ext₂ ?_ ?_)
  · show 0 + 1 * r.val = r.val
    omega
  · show o + 2 * i.val = 2 * i.val + o
    omega

/-- Each of the region's windows stages its operand whole. -/
theorem iblk_whole (c : Dev nD) (t : Fin cfg0.N) :
    (iblk m c 0 t : Vec F S1536x512 .i8) = V m c main_v25 ∧ (iblk m c 1 t : Vec F S1536x512 .i8) = V m c main_v26
    ∧ (iblk m c 2 t : Vec F S512x4096 .i8) = V m c main_v12 ∧ (iblk m c 3 t : Vec F S512x4096 .i8) = V m c main_v18
    ∧ (iblk m c 4 t : Vec F S4096 .i32) = V m c main_v23 ∧ (iblk m c 5 t : Vec F S1 .i32) = V m c main_v27
    ∧ (iblk m c 6 t : Vec F S4096 .i32) = V m c main_arg3 ∧ (iblk m c 7 t : Vec F S4096 .i32) = V m c main_arg4
    ∧ (iblk m c 8 t : Vec F S4096 .i32) = V m c main_arg5 ∧ (iblk m c 9 t : Vec F S1 .i32) = V m c main_v28 := by
  refine ⟨?_, ?_, ?_, ?_, ?_, ?_, ?_, ?_, ?_, ?_⟩ <;>
    exact Memref.read_access_unit_zero (Elt F) _ (funext fun a => by fin_cases a <;> rfl) (fun a => by fin_cases a <;> exact Nat.le_of_eq (Nat.zero_add _)) _

end Cert.ReferenceIdeal.Gen

end
-- ==== Proof.ReferenceIdeal.Result.lean ====
/-
  The reference's result, element by element, in the arguments: the same value the kernel's result is shown to hold.
-/
module

public import proofs.«01_k».proof.Proof.ReferenceIdeal.Body
public import proofs.«01_k».proof.Proof.ReferenceIdeal.Host
public import proofs.«01_k».proof.Proof.KernelIdeal.Result

@[expose] public section

set_option maxRecDepth 16384

noncomputable section

namespace Cert.ReferenceIdeal.Gen

open Cert Cert.Requant Idealize.ShloMosaic Idealize.ShloMosaic.TcCoe

variable {F : FTy → Type} [FloatOps F]
variable (m : (ℓ : Loc nD τ sig) → Buf (Elt F) ℓ)

/-- The low half of a byte is the weight of the even row, the high half that of the odd row after it. -/
theorem low_high_apply (w : S512x4096.Idx → BitVec 8) (i : Fin 512) (k : Fin 4096) :
    (low w (ix2 (n0 := 512) (n1 := 4096) i k)).toInt = KernelIdeal.Gen.column (n := 4096) w k ⟨2 * i.val, by omega⟩
    ∧ (high w (ix2 (n0 := 512) (n1 := 4096) i k)).toInt = KernelIdeal.Gen.column (n := 4096) w k ⟨2 * i.val + 1, by omega⟩ := by
  have e0 : (⟨2 * i.val / 2, by omega⟩ : Fin 512) = i := Fin.ext (by show 2 * i.val / 2 = i.val; omega)
  have e1 : (⟨(2 * i.val + 1) / 2, by omega⟩ : Fin 512) = i := Fin.ext (by show (2 * i.val + 1) / 2 = i.val; omega)
  have f0 : 2 * i.val % 2 = 0 := by omega
  have f1 : (2 * i.val + 1) % 2 = 1 := by omega
  constructor
  · refine (half_lo _).trans ?_
    unfold KernelIdeal.Gen.column
    rw [e0, f0]
  · refine (half_hi _).trans ?_
    unfold KernelIdeal.Gen.column
    rw [e1, f1]

/-- The accumulator's two products over the halves, and the two column sums, are those over the whole columns. -/
theorem accum_halves (x : S1536x1024.Idx → BitVec 8) (w : S512x4096.Idx → BitVec 8) (z b : BitVec 32) (r : Fin 1536) (k : Fin 4096) :
    BitVec.ofInt 32 (∑ i : Fin 512, (x (ix2 (n0 := 1536) (n1 := 1024) r ⟨2 * i.val + 0, by omega⟩)).toInt * (low w (ix2 (n0 := 512) (n1 := 4096) i k)).toInt)
        + BitVec.ofInt 32 (∑ i : Fin 512, (x (ix2 (n0 := 1536) (n1 := 1024) r ⟨2 * i.val + 1, by omega⟩)).toInt * (high w (ix2 (n0 := 512) (n1 := 4096) i k)).toInt)
        - z * addi (columnSums (low w)) (columnSums (high w)) (ix1 (n0 := 4096) k) + b
      = accum (KernelIdeal.Gen.row x r) (KernelIdeal.Gen.column (n := 4096) w k) z b := by
  have hsum : addi (columnSums (low w)) (columnSums (high w)) (ix1 (n0 := 4096) k)
      = BitVec.ofInt 32 (∑ j, KernelIdeal.Gen.column (n := 4096) w k j) := by
    rw [sum_even_odd, BitVec.ofInt_add]
    refine congrArg₂ (· + ·) ((columnSums_apply _ k).trans ?_) ((columnSums_apply _ k).trans ?_)
    · simp only [low_high_apply]
    · simp only [low_high_apply]
  rw [hsum, ← BitVec.ofInt_add]
  unfold accum
  rw [sum_even_odd (fun j => (KernelIdeal.Gen.row x r j).toInt * KernelIdeal.Gen.column (n := 4096) w k j)]
  simp only [low_high_apply]
  rfl

/-- The reference's result array after a run, at every element. -/
theorem final_value (c : Dev nD) (r : Fin 1536) (k : Fin 4096) :
    ((dats m 0 c).arrAt 10 cfg0.N : S1536x4096.Idx → BitVec 8) (ix2 (n0 := 1536) (n1 := 4096) r k)
      = KernelIdeal.Gen.value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) r k := by
  have h := (dats m 0 c).arrAt_emb_eq_flushed 10 Value.disjoint10 t0_0 (flush0_10 _) (ix2 (n0 := 1536) (n1 := 4096) r k)
  rw [Value.flushed10_A, out_A] at h
  have he : ((cfg0.win 10).blk t0_0).view.emb (ix2 (n0 := 1536) (n1 := 4096) r k) = ix2 (n0 := 1536) (n1 := 4096) r k :=
    Shape.idx_ext₂ (Pipeline.Window.rect_emb_val_of_index_zero win0_10 t0_0 0 rfl (ix2 (n0 := 1536) (n1 := 4096) r k))
      (Pipeline.Window.rect_emb_val_of_index_zero win0_10 t0_0 1 rfl (ix2 (n0 := 1536) (n1 := 4096) r k))
  refine ((congrArg (fun j => ((dats m 0 c).arrAt 10 cfg0.N : S1536x4096.Idx → BitVec 8) j) he).symm.trans h).trans ?_
  obtain ⟨h0, h1, h2, h3, h4, h5, h6, h7, h8, h9⟩ := iblk_whole m c t0_0
  obtain ⟨v12, v18, v23, v25, v26, v27, v28⟩ := host_values m c
  refine (pay_apply _ _ _ _ _ _ _ _ _ _ r k).trans ?_
  rw [h0, h1, h2, h3, h4, h5, h6, h7, h8, h9, v12, v18, v23, v25, v26, v27, v28, V_main_arg3, V_main_arg4, V_main_arg5]
  simp only [slice_apply 0 (by decide), slice_apply 1 (by decide)]
  rw [accum_halves]
  rfl

end Cert.ReferenceIdeal.Gen

end
-- ==== Proof.lean ====
/-
  The proof of the certificate's claims: the frames of the kernel, of its idealization and of the reference; and the
  equality of the idealized kernel's result and the reference's, from the value each was shown to hold at every element.
-/
module

public import proofs.«01_k».proof.Defs
public import proofs.«01_k».proof.Proof.Kernel.Frame
public import proofs.«01_k».proof.Proof.KernelIdeal.Result
public import proofs.«01_k».proof.Proof.ReferenceIdeal.Result
public import proofs.«01_k».proof.Proof.Gen.Pre_shifts_positive

@[expose] public section

noncomputable section

namespace Cert.Proof

open Idealize.ShloMosaic Idealize.ShloMosaic.TcCoe Idealize.SL.Sem

/-- A word that passes the precondition's comparison is at least 1. -/
theorem one_le_of_sge (w : BitVec 32) (h : IntOp.cmpi .sge w 1#32 = 1#1) : 1 ≤ w.toInt := by
  have hb : ∀ b : Bool, BitVec.ofBool b = 1#1 → b = true := by decide
  exact of_decide_eq_true (hb _ h)

/-- The idealized kernel and the reference end with equal results, where every shift is at least 1. -/
theorem algebraic :
    Cert.algebraic_KernelIdeal_ReferenceIdeal_pre_shifts_positive (hKernelIdeal := Cert.KernelIdeal.Gen.facts)
      (hReferenceIdeal := Cert.ReferenceIdeal.Gen.facts) (hPre_shifts_positive := Cert.Pre_shifts_positive.Gen.facts) := by
  intro m g m' g' hpre hargs
  refine ⟨fun c => (Cert.KernelIdeal.Gen.dats m 0 c).arrAt 7 Cert.KernelIdeal.cfg0.N, Cert.KernelIdeal.Gen.run_blocks m g,
    (θ_run _ _ _).mono (fun r h c => ⟨(h c).1.trans ?_, (h c).2⟩) (Cert.ReferenceIdeal.Value.run_blocks m' g')⟩
  obtain ⟨e0, e1, e2, e3, e4, e5, e6⟩ := hargs c
  refine funext fun j => ?_
  obtain ⟨r, k, rfl⟩ : ∃ (r : Fin 1536) (k : Fin 4096), j = ix2 (n0 := 1536) (n1 := 4096) r k := ⟨j 0, j 1, Shape.idx_ext₂ rfl rfl⟩
  refine (Cert.ReferenceIdeal.Gen.final_value m' c r k).trans ?_
  rw [e0, e1, e2, e3, e4, e5, e6]
  exact (Cert.KernelIdeal.Gen.final_value m c (fun k => one_le_of_sge _ (congrFun (hpre c) (ix1 (n0 := 4096) k))) r k).symm

theorem claim : Cert.Claim :=
  ⟨Cert.Kernel.Gen.facts, Cert.KernelIdeal.Gen.facts, Cert.ReferenceIdeal.Gen.facts, Cert.Pre_shifts_positive.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
